-- ==== Defs.lean ====
def Pre_Expert [hPre_expert_range : Cert.Pre_expert_range.Facts] (m : (ℓ : Loc Cert.Expert.nD Cert.Expert.τ Cert.Expert.sig) → Buf (Elt Bits) ℓ) : Prop :=
  ∀ c : Dev Cert.Expert.nD,
    (Cert.Pre_expert_range.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5))) = (fun _ => 1#1)

def Pre_ExpertIdeal [hPre_expert_range : Cert.Pre_expert_range.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_expert_range.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5))) = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_expert_range [hPre_expert_range : Cert.Pre_expert_range.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_expert_range.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_inproj_finite [hPre_inproj_finite : Cert.Pre_inproj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_inproj_finite [hPre_inproj_finite : Cert.Pre_inproj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Expert [hExpert : Cert.Expert.Facts] [hPre_expert_range : Cert.Pre_expert_range.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5))
      ∧ r.2.sem = fun _ => 0)

def quiescent_ExpertIdeal [hExpertIdeal : Cert.ExpertIdeal.Facts] [hPre_expert_range : Cert.Pre_expert_range.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5))
      ∧ r.2.sem = fun _ => 0)

def quiescent_ExpertRefIdeal_pre_expert_range [hExpertRefIdeal : Cert.ExpertRefIdeal.Facts] [hPre_expert_range : Cert.Pre_expert_range.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_expert_range m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_inproj_finite [hInProjIdeal : Cert.InProjIdeal.Facts] [hPre_inproj_finite : Cert.Pre_inproj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_inproj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InProjRefIdeal_pre_inproj_finite [hInProjRefIdeal : Cert.InProjRefIdeal.Facts] [hPre_inproj_finite : Cert.Pre_inproj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_inproj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Expert_ExpertIdeal : Prop :=
  True

def algebraic_ExpertIdeal_ExpertRefIdeal [hExpertIdeal : Cert.ExpertIdeal.Facts] [hExpertRefIdeal : Cert.ExpertRefIdeal.Facts] [hPre_expert_range : Cert.Pre_expert_range.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v167) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal_pre_inproj_finite [hInProjIdeal : Cert.InProjIdeal.Facts] [hInProjRefIdeal : Cert.InProjRefIdeal.Facts] [hPre_inproj_finite : Cert.Pre_inproj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_inproj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v30) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v31) = v2 c
          ∧ r.2.mem ((c.tc : Thread Cert.InProjRefIdeal.nD Cert.InProjRefIdeal.τ).loc Cert.InProjRefIdeal.main_v32) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hExpert : Cert.Expert.Facts) (hExpertIdeal : Cert.ExpertIdeal.Facts) (hExpertRefIdeal : Cert.ExpertRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hPre_expert_range : Cert.Pre_expert_range.Facts) (hPre_inproj_finite : Cert.Pre_inproj_finite.Facts),
    quiescent_Expert (hExpert := hExpert) (hPre_expert_range := hPre_expert_range)
    ∧ quiescent_ExpertIdeal (hExpertIdeal := hExpertIdeal) (hPre_expert_range := hPre_expert_range)
    ∧ quiescent_ExpertRefIdeal (hExpertRefIdeal := hExpertRefIdeal)
    ∧ quiescent_ExpertRefIdeal_pre_expert_range (hExpertRefIdeal := hExpertRefIdeal) (hPre_expert_range := hPre_expert_range)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjIdeal_pre_inproj_finite (hInProjIdeal := hInProjIdeal) (hPre_inproj_finite := hPre_inproj_finite)
    ∧ quiescent_InProjRefIdeal (hInProjRefIdeal := hInProjRefIdeal)
    ∧ quiescent_InProjRefIdeal_pre_inproj_finite (hInProjRefIdeal := hInProjRefIdeal) (hPre_inproj_finite := hPre_inproj_finite)
    ∧ quiescent_Merge (hMerge := hMerge)
    ∧ quiescent_MergeIdeal (hMergeIdeal := hMergeIdeal)
    ∧ quiescent_MergeRefIdeal (hMergeRefIdeal := hMergeRefIdeal)
    ∧ preserves_Expert_ExpertIdeal
    ∧ algebraic_ExpertIdeal_ExpertRefIdeal (hExpertIdeal := hExpertIdeal) (hExpertRefIdeal := hExpertRefIdeal) (hPre_expert_range := hPre_expert_range)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal_pre_inproj_finite (hInProjIdeal := hInProjIdeal) (hInProjRefIdeal := hInProjRefIdeal) (hPre_inproj_finite := hPre_inproj_finite)
    ∧ preserves_Merge_MergeIdeal
    ∧ algebraic_MergeIdeal_MergeRefIdeal (hMergeIdeal := hMergeIdeal) (hMergeRefIdeal := hMergeRefIdeal)
-- ==== Pre_expert_range.lean ====
abbrev S73728x1024 : Shape := ⟨2, ![73728, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S73728x1024 .f32) (main_arg1 : IVec S72 32) (main_arg2 : IVec S1 32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_inproj_finite.lean ====
abbrev S32768x1024 : Shape := ⟨2, ![32768, 1024]⟩
abbrev S1x1024 : Shape := ⟨2, ![1, 1024]⟩
abbrev S1024x3072 : Shape := ⟨2, ![1024, 3072]⟩
abbrev S1024x4096 : Shape := ⟨2, ![1024, 4096]⟩
abbrev S1x4096 : Shape := ⟨2, ![1, 4096]⟩
abbrev S1024x128 : Shape := ⟨2, ![1024, 128]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S32768x1024 .f32) (main_arg1 : FVec F S1x1024 .f32) (main_arg2 : FVec F S1024x3072 .bf16) (main_arg3 : FVec F S1024x3072 .bf16) (main_arg4 : FVec F S1024x4096 .bf16) (main_arg5 : FVec F S1x4096 .f32) (main_arg6 : FVec F S1024x128 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x128 .f32 := Host.absf main_arg6
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Expert.lean ====
abbrev S73728x1024 : Shape := ⟨2, ![73728, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S73728x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S72, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c6_i32 : BitVec 32 := 6#32
  let v8 : BitVec 1 := Scalar.cmpi .eq arg1 c6_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond6 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c6_i32 : BitVec 32 := 6#32
  let v8 : BitVec 1 := Scalar.cmpi .eq arg1 c6_i32
  let v13 : BitVec 1 := Scalar.andi v12 v8
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertRefIdeal.lean ====
abbrev S73728x1024 : Shape := ⟨2, ![73728, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S73728 : Shape := ⟨1, ![73728]⟩
abbrev S_ : Shape := ⟨0, ![]⟩
abbrev S72x1024 : Shape := ⟨2, ![72, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S73728x3584 : Shape := ⟨2, ![73728, 3584]⟩
abbrev S73728x1 : Shape := ⟨2, ![73728, 1]⟩

abbrev nBuf : Space → Nat
  | .hbm => 296
  | .vmem => 0
  | .smem => 0
  | _ => 0

abbrev hbmTy0_0 (i : Nat) : BufTy := match i % 128 with
  | 0 => ⟨S73728x1024, .f32⟩
  | 1 => ⟨S72, .i32⟩
  | 2 => ⟨S1, .i32⟩
  | 3 => ⟨S8x1024x3584, .bf16⟩
  | 4 => ⟨S8x1024x3584, .bf16⟩
  | 5 => ⟨S8x3584x1024, .bf16⟩
  | 6 => ⟨S73728, .i32⟩
  | 7 => ⟨S_, .i32⟩
  | 8 => ⟨S_, .i32⟩
  | 9 => ⟨S73728, .i32⟩
  | 10 => ⟨S73728, .i32⟩
  | 11 => ⟨S73728, .i32⟩
  | 12 => ⟨S_, .i32⟩
  | 13 => ⟨S73728, .i32⟩
  | 14 => ⟨S73728, .i1⟩
  | 15 => ⟨S73728, .i32⟩
  | 16 => ⟨S73728, .i32⟩
  | 17 => ⟨S_, .i32⟩
  | 18 => ⟨S73728, .i32⟩
  | 19 => ⟨S73728, .i1⟩
  | 20 => ⟨S73728, .i1⟩
  | 21 => ⟨S_, .i32⟩
  | 22 => ⟨S73728, .i32⟩
  | 23 => ⟨S73728, .i32⟩
  | 24 => ⟨S73728, .i32⟩
  | 25 => ⟨S72x1024, .i32⟩
  | 26 => ⟨S73728, .i32⟩
  | 27 => ⟨S_, .i32⟩
  | 28 => ⟨S73728, .i32⟩
  | 29 => ⟨S73728, .i1⟩
  | 30 => ⟨S_, .f32⟩
  | 31 => ⟨S73728x1024, .f32⟩
  | 32 => ⟨S1x1024x3584, .bf16⟩
  | 33 => ⟨S1024x3584, .bf16⟩
  | 34 => ⟨S1024x3584, .f32⟩
  | 35 => ⟨S1x1024x3584, .bf16⟩
  | 36 => ⟨S1024x3584, .bf16⟩
  | 37 => ⟨S1024x3584, .f32⟩
  | 38 => ⟨S1x3584x1024, .bf16⟩
  | 39 => ⟨S3584x1024, .bf16⟩
  | 40 => ⟨S3584x1024, .f32⟩
  | 41 => ⟨S73728x3584, .f32⟩
  | 42 => ⟨S73728x3584, .f32⟩
  | 43 => ⟨S73728x3584, .f32⟩
  | 44 => ⟨S_, .f32⟩
  | 45 => ⟨S73728x3584, .f32⟩
  | 46 => ⟨S73728x3584, .f32⟩
  | 47 => ⟨S_, .f32⟩
  | 48 => ⟨S73728x3584, .f32⟩
  | 49 => ⟨S73728x3584, .f32⟩
  | 50 => ⟨S73728x3584, .f32⟩
  | 51 => ⟨S73728x3584, .f32⟩
  | 52 => ⟨S73728x3584, .f32⟩
  | 53 => ⟨S73728x1024, .f32⟩
  | 54 => ⟨S_, .i32⟩
  | 55 => ⟨S73728, .i32⟩
  | 56 => ⟨S73728, .i1⟩
  | 57 => ⟨S73728, .i1⟩
  | 58 => ⟨S73728x1, .i1⟩
  | 59 => ⟨S_, .f32⟩
  | 60 => ⟨S_, .f32⟩
  | 61 => ⟨S73728x1024, .i1⟩
  | 62 => ⟨S73728x1024, .f32⟩
  | 63 => ⟨S73728x1024, .f32⟩
  | 64 => ⟨S73728x1024, .f32⟩
  | 65 => ⟨S1x1024x3584, .bf16⟩
  | 66 => ⟨S1024x3584, .bf16⟩
  | 67 => ⟨S1024x3584, .f32⟩
  | 68 => ⟨S1x1024x3584, .bf16⟩
  | 69 => ⟨S1024x3584, .bf16⟩
  | 70 => ⟨S1024x3584, .f32⟩
  | 71 => ⟨S1x3584x1024, .bf16⟩
  | 72 => ⟨S3584x1024, .bf16⟩
  | 73 => ⟨S3584x1024, .f32⟩
  | 74 => ⟨S73728x3584, .f32⟩
  | 75 => ⟨S73728x3584, .f32⟩
  | 76 => ⟨S73728x3584, .f32⟩
  | 77 => ⟨S_, .f32⟩
  | 78 => ⟨S73728x3584, .f32⟩
  | 79 => ⟨S73728x3584, .f32⟩
  | 80 => ⟨S_, .f32⟩
  | 81 => ⟨S73728x3584, .f32⟩
  | 82 => ⟨S73728x3584, .f32⟩
  | 83 => ⟨S73728x3584, .f32⟩
  | 84 => ⟨S73728x3584, .f32⟩
  | 85 => ⟨S73728x3584, .f32⟩
  | 86 => ⟨S73728x1024, .f32⟩
  | 87 => ⟨S_, .i32⟩
  | 88 => ⟨S73728, .i32⟩
  | 89 => ⟨S73728, .i1⟩
  | 90 => ⟨S73728, .i1⟩
  | 91 => ⟨S73728x1, .i1⟩
  | 92 => ⟨S_, .f32⟩
  | 93 => ⟨S_, .f32⟩
  | 94 => ⟨S73728x1024, .i1⟩
  | 95 => ⟨S73728x1024, .f32⟩
  | 96 => ⟨S73728x1024, .f32⟩
  | 97 => ⟨S73728x1024, .f32⟩
  | 98 => ⟨S1x1024x3584, .bf16⟩
  | 99 => ⟨S1024x3584, .bf16⟩
  | 100 => ⟨S1024x3584, .f32⟩
  | 101 => ⟨S1x1024x3584, .bf16⟩
  | 102 => ⟨S1024x3584, .bf16⟩
  | 103 => ⟨S1024x3584, .f32⟩
  | 104 => ⟨S1x3584x1024, .bf16⟩
  | 105 => ⟨S3584x1024, .bf16⟩
  | 106 => ⟨S3584x1024, .f32⟩
  | 107 => ⟨S73728x3584, .f32⟩
  | 108 => ⟨S73728x3584, .f32⟩
  | 109 => ⟨S73728x3584, .f32⟩
  | 110 => ⟨S_, .f32⟩
  | 111 => ⟨S73728x3584, .f32⟩
  | 112 => ⟨S73728x3584, .f32⟩
  | 113 => ⟨S_, .f32⟩
  | 114 => ⟨S73728x3584, .f32⟩
  | 115 => ⟨S73728x3584, .f32⟩
  | 116 => ⟨S73728x3584, .f32⟩
  | 117 => ⟨S73728x3584, .f32⟩
  | 118 => ⟨S73728x3584, .f32⟩
  | 119 => ⟨S73728x1024, .f32⟩
  | 120 => ⟨S_, .i32⟩
  | 121 => ⟨S73728, .i32⟩
  | 122 => ⟨S73728, .i1⟩
  | 123 => ⟨S73728, .i1⟩
  | 124 => ⟨S73728x1, .i1⟩
  | 125 => ⟨S_, .f32⟩
  | 126 => ⟨S_, .f32⟩
  | 127 => ⟨S73728x1024, .i1⟩
  | _ => ⟨S73728x1024, .f32⟩

abbrev hbmTy0_1 (i : Nat) : BufTy := match i % 128 with
  | 0 => ⟨S73728x1024, .f32⟩
  | 1 => ⟨S73728x1024, .f32⟩
  | 2 => ⟨S73728x1024, .f32⟩
  | 3 => ⟨S1x1024x3584, .bf16⟩
  | 4 => ⟨S1024x3584, .bf16⟩
  | 5 => ⟨S1024x3584, .f32⟩
  | 6 => ⟨S1x1024x3584, .bf16⟩
  | 7 => ⟨S1024x3584, .bf16⟩
  | 8 => ⟨S1024x3584, .f32⟩
  | 9 => ⟨S1x3584x1024, .bf16⟩
  | 10 => ⟨S3584x1024, .bf16⟩
  | 11 => ⟨S3584x1024, .f32⟩
  | 12 => ⟨S73728x3584, .f32⟩
  | 13 => ⟨S73728x3584, .f32⟩
  | 14 => ⟨S73728x3584, .f32⟩
  | 15 => ⟨S_, .f32⟩
  | 16 => ⟨S73728x3584, .f32⟩
  | 17 => ⟨S73728x3584, .f32⟩
  | 18 => ⟨S_, .f32⟩
  | 19 => ⟨S73728x3584, .f32⟩
  | 20 => ⟨S73728x3584, .f32⟩
  | 21 => ⟨S73728x3584, .f32⟩
  | 22 => ⟨S73728x3584, .f32⟩
  | 23 => ⟨S73728x3584, .f32⟩
  | 24 => ⟨S73728x1024, .f32⟩
  | 25 => ⟨S_, .i32⟩
  | 26 => ⟨S73728, .i32⟩
  | 27 => ⟨S73728, .i1⟩
  | 28 => ⟨S73728, .i1⟩
  | 29 => ⟨S73728x1, .i1⟩
  | 30 => ⟨S_, .f32⟩
  | 31 => ⟨S_, .f32⟩
  | 32 => ⟨S73728x1024, .i1⟩
  | 33 => ⟨S73728x1024, .f32⟩
  | 34 => ⟨S73728x1024, .f32⟩
  | 35 => ⟨S73728x1024, .f32⟩
  | 36 => ⟨S1x1024x3584, .bf16⟩
  | 37 => ⟨S1024x3584, .bf16⟩
  | 38 => ⟨S1024x3584, .f32⟩
  | 39 => ⟨S1x1024x3584, .bf16⟩
  | 40 => ⟨S1024x3584, .bf16⟩
  | 41 => ⟨S1024x3584, .f32⟩
  | 42 => ⟨S1x3584x1024, .bf16⟩
  | 43 => ⟨S3584x1024, .bf16⟩
  | 44 => ⟨S3584x1024, .f32⟩
  | 45 => ⟨S73728x3584, .f32⟩
  | 46 => ⟨S73728x3584, .f32⟩
  | 47 => ⟨S73728x3584, .f32⟩
  | 48 => ⟨S_, .f32⟩
  | 49 => ⟨S73728x3584, .f32⟩
  | 50 => ⟨S73728x3584, .f32⟩
  | 51 => ⟨S_, .f32⟩
  | 52 => ⟨S73728x3584, .f32⟩
  | 53 => ⟨S73728x3584, .f32⟩
  | 54 => ⟨S73728x3584, .f32⟩
  | 55 => ⟨S73728x3584, .f32⟩
  | 56 => ⟨S73728x3584, .f32⟩
  | 57 => ⟨S73728x1024, .f32⟩
  | 58 => ⟨S_, .i32⟩
  | 59 => ⟨S73728, .i32⟩
  | 60 => ⟨S73728, .i1⟩
  | 61 => ⟨S73728, .i1⟩
  | 62 => ⟨S73728x1, .i1⟩
  | 63 => ⟨S_, .f32⟩
  | 64 => ⟨S_, .f32⟩
  | 65 => ⟨S73728x1024, .i1⟩
  | 66 => ⟨S73728x1024, .f32⟩
  | 67 => ⟨S73728x1024, .f32⟩
  | 68 => ⟨S73728x1024, .f32⟩
  | 69 => ⟨S1x1024x3584, .bf16⟩
  | 70 => ⟨S1024x3584, .bf16⟩
  | 71 => ⟨S1024x3584, .f32⟩
  | 72 => ⟨S1x1024x3584, .bf16⟩
  | 73 => ⟨S1024x3584, .bf16⟩
  | 74 => ⟨S1024x3584, .f32⟩
  | 75 => ⟨S1x3584x1024, .bf16⟩
  | 76 => ⟨S3584x1024, .bf16⟩
  | 77 => ⟨S3584x1024, .f32⟩
  | 78 => ⟨S73728x3584, .f32⟩
  | 79 => ⟨S73728x3584, .f32⟩
  | 80 => ⟨S73728x3584, .f32⟩
  | 81 => ⟨S_, .f32⟩
  | 82 => ⟨S73728x3584, .f32⟩
  | 83 => ⟨S73728x3584, .f32⟩
  | 84 => ⟨S_, .f32⟩
  | 85 => ⟨S73728x3584, .f32⟩
  | 86 => ⟨S73728x3584, .f32⟩
  | 87 => ⟨S73728x3584, .f32⟩
  | 88 => ⟨S73728x3584, .f32⟩
  | 89 => ⟨S73728x3584, .f32⟩
  | 90 => ⟨S73728x1024, .f32⟩
  | 91 => ⟨S_, .i32⟩
  | 92 => ⟨S73728, .i32⟩
  | 93 => ⟨S73728, .i1⟩
  | 94 => ⟨S73728, .i1⟩
  | 95 => ⟨S73728x1, .i1⟩
  | 96 => ⟨S_, .f32⟩
  | 97 => ⟨S_, .f32⟩
  | 98 => ⟨S73728x1024, .i1⟩
  | 99 => ⟨S73728x1024, .f32⟩
  | 100 => ⟨S73728x1024, .f32⟩
  | 101 => ⟨S73728x1024, .f32⟩
  | 102 => ⟨S1x1024x3584, .bf16⟩
  | 103 => ⟨S1024x3584, .bf16⟩
  | 104 => ⟨S1024x3584, .f32⟩
  | 105 => ⟨S1x1024x3584, .bf16⟩
  | 106 => ⟨S1024x3584, .bf16⟩
  | 107 => ⟨S1024x3584, .f32⟩
  | 108 => ⟨S1x3584x1024, .bf16⟩
  | 109 => ⟨S3584x1024, .bf16⟩
  | 110 => ⟨S3584x1024, .f32⟩
  | 111 => ⟨S73728x3584, .f32⟩
  | 112 => ⟨S73728x3584, .f32⟩
  | 113 => ⟨S73728x3584, .f32⟩
  | 114 => ⟨S_, .f32⟩
  | 115 => ⟨S73728x3584, .f32⟩
  | 116 => ⟨S73728x3584, .f32⟩
  | 117 => ⟨S_, .f32⟩
  | 118 => ⟨S73728x3584, .f32⟩
  | 119 => ⟨S73728x3584, .f32⟩
  | 120 => ⟨S73728x3584, .f32⟩
  | 121 => ⟨S73728x3584, .f32⟩
  | 122 => ⟨S73728x3584, .f32⟩
  | 123 => ⟨S73728x1024, .f32⟩
  | 124 => ⟨S_, .i32⟩
  | 125 => ⟨S73728, .i32⟩
  | 126 => ⟨S73728, .i1⟩
  | 127 => ⟨S73728, .i1⟩
  | _ => ⟨S73728x1024, .f32⟩

abbrev hbmTy0_2 (i : Nat) : BufTy := match i % 128 with
  | 0 => ⟨S73728x1, .i1⟩
  | 1 => ⟨S_, .f32⟩
  | 2 => ⟨S_, .f32⟩
  | 3 => ⟨S73728x1024, .i1⟩
  | 4 => ⟨S73728x1024, .f32⟩
  | 5 => ⟨S73728x1024, .f32⟩
  | 6 => ⟨S73728x1024, .f32⟩
  | 7 => ⟨S1x1024x3584, .bf16⟩
  | 8 => ⟨S1024x3584, .bf16⟩
  | 9 => ⟨S1024x3584, .f32⟩
  | 10 => ⟨S1x1024x3584, .bf16⟩
  | 11 => ⟨S1024x3584, .bf16⟩
  | 12 => ⟨S1024x3584, .f32⟩
  | 13 => ⟨S1x3584x1024, .bf16⟩
  | 14 => ⟨S3584x1024, .bf16⟩
  | 15 => ⟨S3584x1024, .f32⟩
  | 16 => ⟨S73728x3584, .f32⟩
  | 17 => ⟨S73728x3584, .f32⟩
  | 18 => ⟨S73728x3584, .f32⟩
  | 19 => ⟨S_, .f32⟩
  | 20 => ⟨S73728x3584, .f32⟩
  | 21 => ⟨S73728x3584, .f32⟩
  | 22 => ⟨S_, .f32⟩
  | 23 => ⟨S73728x3584, .f32⟩
  | 24 => ⟨S73728x3584, .f32⟩
  | 25 => ⟨S73728x3584, .f32⟩
  | 26 => ⟨S73728x3584, .f32⟩
  | 27 => ⟨S73728x3584, .f32⟩
  | 28 => ⟨S73728x1024, .f32⟩
  | 29 => ⟨S_, .i32⟩
  | 30 => ⟨S73728, .i32⟩
  | 31 => ⟨S73728, .i1⟩
  | 32 => ⟨S73728, .i1⟩
  | 33 => ⟨S73728x1, .i1⟩
  | 34 => ⟨S_, .f32⟩
  | 35 => ⟨S_, .f32⟩
  | 36 => ⟨S73728x1024, .i1⟩
  | 37 => ⟨S73728x1024, .f32⟩
  | 38 => ⟨S73728x1024, .f32⟩
  | 39 => ⟨S73728x1024, .f32⟩
  | _ => ⟨S73728x1024, .f32⟩

abbrev hbmTy (i : Nat) : BufTy := match i / 128 with
  | 0 => hbmTy0_0 i
  | 1 => hbmTy0_1 i
  | 2 => hbmTy0_2 i
  | _ => ⟨S73728x1024, .f32⟩

abbrev bufTy : (tb : Table) → Fin (tcTables nBuf tb) → BufTy
  | .hbm, ⟨i, _⟩ => hbmTy i
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_2 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_3 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_call5_v0 : Ref sig .tc := ⟨.hbm, 108, rfl⟩
abbrev main_call5_v1 : Ref sig .tc := ⟨.hbm, 109, rfl⟩
abbrev main_call5_cst : Ref sig .tc := ⟨.hbm, 110, rfl⟩
abbrev main_call5_v2 : Ref sig .tc := ⟨.hbm, 111, rfl⟩
abbrev main_call5_v3 : Ref sig .tc := ⟨.hbm, 112, rfl⟩
abbrev main_call5_cst_0 : Ref sig .tc := ⟨.hbm, 113, rfl⟩
abbrev main_call5_v4 : Ref sig .tc := ⟨.hbm, 114, rfl⟩
abbrev main_call5_v5 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_4 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_5 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_call7_v0 : Ref sig .tc := ⟨.hbm, 141, rfl⟩
abbrev main_call7_v1 : Ref sig .tc := ⟨.hbm, 142, rfl⟩
abbrev main_call7_cst : Ref sig .tc := ⟨.hbm, 143, rfl⟩
abbrev main_call7_v2 : Ref sig .tc := ⟨.hbm, 144, rfl⟩
abbrev main_call7_v3 : Ref sig .tc := ⟨.hbm, 145, rfl⟩
abbrev main_call7_cst_0 : Ref sig .tc := ⟨.hbm, 146, rfl⟩
abbrev main_call7_v4 : Ref sig .tc := ⟨.hbm, 147, rfl⟩
abbrev main_call7_v5 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_c_6 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_7 : Ref sig .tc := ⟨.hbm, 158, rfl⟩
abbrev main_call8_v0 : Ref sig .tc := ⟨.hbm, 159, rfl⟩
abbrev main_call8_v1 : Ref sig .tc := ⟨.hbm, 160, rfl⟩
abbrev main_call8_v2 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_call9_v0 : Ref sig .tc := ⟨.hbm, 174, rfl⟩
abbrev main_call9_v1 : Ref sig .tc := ⟨.hbm, 175, rfl⟩
abbrev main_call9_cst : Ref sig .tc := ⟨.hbm, 176, rfl⟩
abbrev main_call9_v2 : Ref sig .tc := ⟨.hbm, 177, rfl⟩
abbrev main_call9_v3 : Ref sig .tc := ⟨.hbm, 178, rfl⟩
abbrev main_call9_cst_0 : Ref sig .tc := ⟨.hbm, 179, rfl⟩
abbrev main_call9_v4 : Ref sig .tc := ⟨.hbm, 180, rfl⟩
abbrev main_call9_v5 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_c_8 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_cst_9 : Ref sig .tc := ⟨.hbm, 191, rfl⟩
abbrev main_call10_v0 : Ref sig .tc := ⟨.hbm, 192, rfl⟩
abbrev main_call10_v1 : Ref sig .tc := ⟨.hbm, 193, rfl⟩
abbrev main_call10_v2 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_call11_v0 : Ref sig .tc := ⟨.hbm, 207, rfl⟩
abbrev main_call11_v1 : Ref sig .tc := ⟨.hbm, 208, rfl⟩
abbrev main_call11_cst : Ref sig .tc := ⟨.hbm, 209, rfl⟩
abbrev main_call11_v2 : Ref sig .tc := ⟨.hbm, 210, rfl⟩
abbrev main_call11_v3 : Ref sig .tc := ⟨.hbm, 211, rfl⟩
abbrev main_call11_cst_0 : Ref sig .tc := ⟨.hbm, 212, rfl⟩
abbrev main_call11_v4 : Ref sig .tc := ⟨.hbm, 213, rfl⟩
abbrev main_call11_v5 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_c_10 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_cst_11 : Ref sig .tc := ⟨.hbm, 224, rfl⟩
abbrev main_call12_v0 : Ref sig .tc := ⟨.hbm, 225, rfl⟩
abbrev main_call12_v1 : Ref sig .tc := ⟨.hbm, 226, rfl⟩
abbrev main_call12_v2 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_call13_v0 : Ref sig .tc := ⟨.hbm, 240, rfl⟩
abbrev main_call13_v1 : Ref sig .tc := ⟨.hbm, 241, rfl⟩
abbrev main_call13_cst : Ref sig .tc := ⟨.hbm, 242, rfl⟩
abbrev main_call13_v2 : Ref sig .tc := ⟨.hbm, 243, rfl⟩
abbrev main_call13_v3 : Ref sig .tc := ⟨.hbm, 244, rfl⟩
abbrev main_call13_cst_0 : Ref sig .tc := ⟨.hbm, 245, rfl⟩
abbrev main_call13_v4 : Ref sig .tc := ⟨.hbm, 246, rfl⟩
abbrev main_call13_v5 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_c_12 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_cst_13 : Ref sig .tc := ⟨.hbm, 257, rfl⟩
abbrev main_call14_v0 : Ref sig .tc := ⟨.hbm, 258, rfl⟩
abbrev main_call14_v1 : Ref sig .tc := ⟨.hbm, 259, rfl⟩
abbrev main_call14_v2 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_call15_v0 : Ref sig .tc := ⟨.hbm, 273, rfl⟩
abbrev main_call15_v1 : Ref sig .tc := ⟨.hbm, 274, rfl⟩
abbrev main_call15_cst : Ref sig .tc := ⟨.hbm, 275, rfl⟩
abbrev main_call15_v2 : Ref sig .tc := ⟨.hbm, 276, rfl⟩
abbrev main_call15_v3 : Ref sig .tc := ⟨.hbm, 277, rfl⟩
abbrev main_call15_cst_0 : Ref sig .tc := ⟨.hbm, 278, rfl⟩
abbrev main_call15_v4 : Ref sig .tc := ⟨.hbm, 279, rfl⟩
abbrev main_call15_v5 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_c_14 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_cst_15 : Ref sig .tc := ⟨.hbm, 290, rfl⟩
abbrev main_call16_v0 : Ref sig .tc := ⟨.hbm, 291, rfl⟩
abbrev main_call16_v1 : Ref sig .tc := ⟨.hbm, 292, rfl⟩
abbrev main_call16_v2 : Ref sig .tc := ⟨.hbm, 293, rfl⟩
abbrev main_v166 : Ref sig .tc := ⟨.hbm, 294, rfl⟩
abbrev main_v167 : Ref sig .tc := ⟨.hbm, 295, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S32768x2816 : Shape := ⟨2, ![32768, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x1024, .f32⟩
  | .hbm, ⟨23, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S1024x3072 : Shape := ⟨2, ![1024, 3072]⟩
abbrev S1024x4096 : Shape := ⟨2, ![1024, 4096]⟩
abbrev S1x4096 : Shape := ⟨2, ![1, 4096]⟩
abbrev S1024x128 : Shape := ⟨2, ![1024, 128]⟩
abbrev S32768x3072 : Shape := ⟨2, ![32768, 3072]⟩
abbrev S32768x4096 : Shape := ⟨2, ![32768, 4096]⟩
abbrev S32768x128 : Shape := ⟨2, ![32768, 128]⟩
abbrev S512x1024 : Shape := ⟨2, ![512, 1024]⟩
abbrev S512x3072 : Shape := ⟨2, ![512, 3072]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3072, .bf16⟩
  | .hbm, ⟨3, _⟩ => ⟨S1024x3072, .bf16⟩
  | .hbm, ⟨4, _⟩ => ⟨S1024x4096, .bf16⟩
  | .hbm, ⟨5, _⟩ => ⟨S1x4096, .f32⟩
  | .hbm, ⟨6, _⟩ => ⟨S1024x128, .f32⟩
  | .hbm, ⟨7, _⟩ => ⟨S32768x3072, .bf16⟩
  | .hbm, ⟨8, _⟩ => ⟨S32768x3072, .f32⟩
  | .hbm, ⟨9, _⟩ => ⟨S32768x4096, .bf16⟩
  | .hbm, ⟨10, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x4096, .bf16⟩
  | .local _ .vmem, ⟨6, _⟩ => ⟨S1x4096, .f32⟩
  | .local _ .vmem, ⟨7, _⟩ => ⟨S1024x128, .f32⟩
  | .local _ .vmem, ⟨8, _⟩ => ⟨S512x3072, .bf16⟩
  | .local _ .vmem, ⟨9, _⟩ => ⟨S512x3072, .bf16⟩
  | .local _ .vmem, ⟨10, _⟩ => ⟨S512x3072, .f32⟩
  | .local _ .vmem, ⟨11, _⟩ => ⟨S512x3072, .f32⟩
  | .local _ .vmem, ⟨12, _⟩ => ⟨S512x4096, .bf16⟩
  | .local _ .vmem, ⟨13, _⟩ => ⟨S512x4096, .bf16⟩
  | .local _ .vmem, ⟨14, _⟩ => ⟨S512x128, .f32⟩
  | .local _ .vmem, ⟨15, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S32768x1024 : Shape := ⟨2, ![32768, 1024]⟩
abbrev S1x1024 : Shape := ⟨2, ![1, 1024]⟩
abbrev S1024x3072 : Shape := ⟨2, ![1024, 3072]⟩
abbrev S1024x4096 : Shape := ⟨2, ![1024, 4096]⟩
abbrev S1x4096 : Shape := ⟨2, ![1, 4096]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S1024 : Shape := ⟨1, ![1024]⟩
abbrev S32768x3072 : Shape := ⟨2, ![32768, 3072]⟩
abbrev S32768x4096 : Shape := ⟨2, ![32768, 4096]⟩
abbrev S4096 : Shape := ⟨1, ![4096]⟩
abbrev S32768x128 : Shape := ⟨2, ![32768, 128]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3072, .bf16⟩
  | .hbm, ⟨3, _⟩ => ⟨S1024x3072, .bf16⟩
  | .hbm, ⟨4, _⟩ => ⟨S1024x4096, .bf16⟩
  | .hbm, ⟨5, _⟩ => ⟨S1x4096, .f32⟩
  | .hbm, ⟨6, _⟩ => ⟨S1024x128, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1024x3072, .f32⟩
  | .hbm, ⟨25, _⟩ => ⟨S32768x3072, .f32⟩
  | .hbm, ⟨26, _⟩ => ⟨S1024x3072, .f32⟩
  | .hbm, ⟨27, _⟩ => ⟨S32768x3072, .f32⟩
  | .hbm, ⟨28, _⟩ => ⟨S1024x4096, .f32⟩
  | .hbm, ⟨29, _⟩ => ⟨S32768x4096, .f32⟩
  | .hbm, ⟨30, _⟩ => ⟨S4096, .f32⟩
  | .hbm, ⟨31, _⟩ => ⟨S1x4096, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S32768x4096, .f32⟩
  | .hbm, ⟨36, _⟩ => ⟨S_, .f32⟩
  | .hbm, ⟨37, _⟩ => ⟨S32768x4096, .f32⟩
  | .hbm, ⟨38, _⟩ => ⟨S32768x4096, .f32⟩
  | .hbm, ⟨39, _⟩ => ⟨S_, .f32⟩
  | .hbm, ⟨40, _⟩ => ⟨S32768x4096, .f32⟩
  | .hbm, ⟨41, _⟩ => ⟨S32768x4096, .f32⟩
  | .hbm, ⟨42, _⟩ => ⟨S32768x3072, .bf16⟩
  | .hbm, ⟨43, _⟩ => ⟨S32768x4096, .bf16⟩
  | .hbm, ⟨44, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Merge.lean ====
abbrev S32768x512 : Shape := ⟨2, ![32768, 512]⟩
abbrev S32768x4096 : Shape := ⟨2, ![32768, 4096]⟩
abbrev S32768x1024 : Shape := ⟨2, ![32768, 1024]⟩
abbrev S4x512x1024 : Shape := ⟨3, ![4, 512, 1024]⟩
abbrev S1024x1024 : Shape := ⟨2, ![1024, 1024]⟩
abbrev S1x1024 : Shape := ⟨2, ![1, 1024]⟩
abbrev S512x512 : Shape := ⟨2, ![512, 512]⟩
abbrev S512x4096 : Shape := ⟨2, ![512, 4096]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4096, .bf16⟩
  | .hbm, ⟨5, _⟩ => ⟨S32768x1024, .f32⟩
  | .hbm, ⟨6, _⟩ => ⟨S4x512x1024, .bf16⟩
  | .hbm, ⟨7, _⟩ => ⟨S1024x1024, .bf16⟩
  | .hbm, ⟨8, _⟩ => ⟨S1x1024, .f32⟩
  | .hbm, ⟨9, _⟩ => ⟨S32768x1024, .f32⟩
  | .hbm, ⟨10, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32768x512 : Shape := ⟨2, ![32768, 512]⟩
abbrev S32768x4096 : Shape := ⟨2, ![32768, 4096]⟩
abbrev S32768x1024 : Shape := ⟨2, ![32768, 1024]⟩
abbrev S4x512x1024 : Shape := ⟨3, ![4, 512, 1024]⟩
abbrev S1024x1024 : Shape := ⟨2, ![1024, 1024]⟩
abbrev S1x1024 : Shape := ⟨2, ![1, 1024]⟩
abbrev S32768x1x512 : Shape := ⟨3, ![32768, 1, 512]⟩
abbrev S32768x4x512 : Shape := ⟨3, ![32768, 4, 512]⟩
abbrev S4x1024x32768 : Shape := ⟨3, ![4, 1024, 32768]⟩
abbrev S32768x4x1024 : Shape := ⟨3, ![32768, 4, 1024]⟩
abbrev S_ : Shape := ⟨0, ![]⟩
abbrev S32768 : Shape := ⟨1, ![32768]⟩
abbrev S32768x1 : Shape := ⟨2, ![32768, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4096, .bf16⟩
  | .hbm, ⟨5, _⟩ => ⟨S32768x1024, .f32⟩
  | .hbm, ⟨6, _⟩ => ⟨S4x512x1024, .bf16⟩
  | .hbm, ⟨7, _⟩ => ⟨S1024x1024, .bf16⟩
  | .hbm, ⟨8, _⟩ => ⟨S1x1024, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x1x512, .f32⟩
  | .hbm, ⟨14, _⟩ => ⟨S32768x1x512, .f32⟩
  | .hbm, ⟨15, _⟩ => ⟨S32768x1x512, .f32⟩
  | .hbm, ⟨16, _⟩ => ⟨S32768x1x512, .f32⟩
  | .hbm, ⟨17, _⟩ => ⟨S32768x4x512, .f32⟩
  | .hbm, ⟨18, _⟩ => ⟨S4x512x1024, .f32⟩
  | .hbm, ⟨19, _⟩ => ⟨S4x1024x32768, .f32⟩
  | .hbm, ⟨20, _⟩ => ⟨S32768x4x1024, .f32⟩
  | .hbm, ⟨21, _⟩ => ⟨S32768x4096, .f32⟩
  | .hbm, ⟨22, _⟩ => ⟨S32768x4x1024, .f32⟩
  | .hbm, ⟨23, _⟩ => ⟨S32768x4x1024, .f32⟩
  | .hbm, ⟨24, _⟩ => ⟨S_, .f32⟩
  | .hbm, ⟨25, _⟩ => ⟨S32768x1024, .f32⟩
  | .hbm, ⟨26, _⟩ => ⟨S1024x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.ExpertIdealRun.lean ====
/-
  One grid point of the expert feed-forward kernel, at any float model, table contents and block contents: the five ways
  through the body (the tile in use or not; the first, a middle or the last hidden tile), each with what it leaves in the
  two scratch buffers and in the output block.
-/
module

public import proofs.«01_k».proof.Proof.Gen.ExpertIdeal.Skeleton
public import proofs.«01_k».proof.Proof.Gen.ExpertIdeal.Launch
public import Idealize.ShloMosaic.Lib.Exec
public import Idealize.ShloMosaic.Lib.VecWindow
public import Idealize.ShloMosaic.Lib.Affine
public import Idealize.ShloMosaic.Lib.Tactic
public import Idealize.ShloMosaic.Lib.Pipeline.TableIdle
public import Idealize.ShloMosaic.Lib.Pipeline.FrameBody

@[expose] public section

set_option maxRecDepth 16384
set_option Elab.async false

noncomputable section

namespace Cert.ExpertIdeal.Hand

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the two scratch buffers. -/
abbrev tb0 : Memref sig .tc .smem S72 .i32 := Memref.whole main_arg1
abbrev tb1 : Memref sig .tc .smem S1 .i32 := Memref.whole main_arg2
abbrev sc0 : Memref sig .tc .vmem S1024x1024 .bf16 := Memref.whole cc0_scratch0
abbrev sc1 : Memref sig .tc .vmem S1024x1024 .f32 := Memref.whole cc0_scratch1

/-- The number of tiles in use, as the body reads it. -/
abbrev word (T1 : S1.Idx → Elt F .i32) : BitVec 32 :=
  (View.readAt (Elt F) tb1.view (Rect.unit (s := S1) ![0] S1.size inb_S1_S1_0).toLoadRect T1 (Shape.Idx.first (numel1_S1.symm ▸ Nat.one_pos)))

set_option maxHeartbeats 4000000 in
/-- The tile is in use, at its first hidden tile: the input block cast, and its product. -/
theorem run_first (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (T1 : S1.Idx → Elt F .i32)
    (x0 : Vec F S1024x1024 .f32) (x1 : Vec F S1x1024x512 .bf16) (x2 : Vec F S1x1024x512 .bf16) (x3 : Vec F S1x512x1024 .bf16) (a0 : Vec F S1024x1024 .bf16) (a1 : Vec F S1024x1024 .f32) (y4 : Vec F S1024x1024 .f32)
    (hc0 : (Scalar.cmpi .ne (Scalar.extui (Scalar.andi (Scalar.cmpi .slt (BitVec.ofNat 32 (i 0).val) (word T1)) (Scalar.cmpi .eq (BitVec.ofNat 32 (i 1).val) 0#32))) 0#32) = 1#1) (hc1 : (Scalar.cmpi .ne (Scalar.extui (Scalar.cmpi .slt (BitVec.ofNat 32 (i 0).val) (word T1))) 0#32) = 1#1) (h3 : (Scalar.cmpi .ne (Scalar.extui (Scalar.cmpi .eq (BitVec.ofNat 32 (i 1).val) 0#32)) 0#32) = 1#1) (h4 : ¬((Scalar.cmpi .ne (Scalar.extui (Scalar.cmpi .sgt (BitVec.ofNat 32 (i 1).val) 0#32)) 0#32) = 1#1)) (h5 : ¬(k0_cond5 i (word T1) = 1#1)) (h6 : ¬(k0_cond6 i (word T1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare y4 ∗ owns (c : Thread nD τ) sc0 fullShare a0 ∗ owns (c : Thread nD τ) sc1 fullShare a1
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare y4 ∗ owns (c : Thread nD τ) sc0 fullShare (k0_pay1 x0) ∗ owns (c : Thread nD τ) sc1 fullShare (k0_pay3 (k0_pay1 x0) x1 x2 x3)) -∗ K ⟨⟩))
      ⊢ wp frame (wpE (defs₀ (F := F)) Variants.none c none) Set.univ (cc0_expert_ffn i tb0 (Memref.isWhole_whole _) tb1 (Memref.isWhole_whole _) arg4 harg4 arg5 harg5 arg6 harg6 arg7 harg7 arg8 harg8 sc0 (Memref.isWhole_whole _) sc1 (Memref.isWhole_whole _)) K := by
  rw [cc0_expert_ffn_eq_skeleton]; unfold cc0_expert_ffn_skel
  unfold owns
  iintro ⟨⟨%f4, %hf4, H4⟩, ⟨%f5, %hf5, H5⟩, ⟨%f6, %hf6, H6⟩, ⟨%f7, %hf7, H7⟩, HT1, ⟨%f8, %hf8, H8⟩, ⟨%g0, %hg0, HS0⟩, ⟨%g1, %hg1, HS1⟩, Hk⟩
  have hS0 : sc0.IsWhole := Memref.isWhole_whole _
  have hS1 : sc1.IsWhole := Memref.isWhole_whole _
  have hT1 : tb1.IsWhole := Memref.isWhole_whole _
  sl_exec! (disch := first | (guard_target = Scalar.cmpi = _; exact hc0) | (guard_target = Scalar.cmpi = _; exact hc1) | (guard_target = Scalar.cmpi = _; exact h3) | (guard_target = ¬(Scalar.cmpi = _); exact h4) | (guard_target = ¬(k0_cond5 _ _ = _); exact h5) | (guard_target = ¬(k0_cond6 _ _ = _); exact h6))
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [HT1]; · iexact HT1
  isplitl [H8]
  · iexists _; isplitr; swap; · iexact H8
    ipureintro
    exact hf8
  isplitl [HS0]
  · iexists _; isplitr; swap; · iexact HS0
    ipureintro
    refine (View.read_writes_full _ _ _ _ _).trans ?_; rw [← hf4, ← View.readAt_full arg4.view _ inb_S1024x1024_S1024x1024_0_0]
  iexists _; isplitr; swap; · iexact HS1
  ipureintro
  refine (View.read_writes_full _ _ _ _ _).trans ?_; rw [← hf5, ← View.readAt_full arg5.view _ inb_S1x1024x512_S1x1024x512_0_0_0, ← hf6, ← View.readAt_full arg6.view _ inb_S1x1024x512_S1x1024x512_0_0_0, ← hf7, ← View.readAt_full arg7.view _ inb_S1x512x1024_S1x512x1024_0_0_0, ← hf4, ← View.readAt_full arg4.view _ inb_S1024x1024_S1024x1024_0_0]; exact congrArg (fun z => k0_pay3 z _ _ _) (View.readCov_full (Val := Elt F) sc0.view inb_S1024x1024_S1024x1024_0_0 inb_S1024x1024_S1024x1024_0_0 _ [])

set_option maxHeartbeats 4000000 in
/-- The tile is in use, at a middle hidden tile: the product added to what was accumulated. -/
theorem run_mid (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (T1 : S1.Idx → Elt F .i32)
    (x0 : Vec F S1024x1024 .f32) (x1 : Vec F S1x1024x512 .bf16) (x2 : Vec F S1x1024x512 .bf16) (x3 : Vec F S1x512x1024 .bf16) (a0 : Vec F S1024x1024 .bf16) (a1 : Vec F S1024x1024 .f32) (y4 : Vec F S1024x1024 .f32)
    (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : (Scalar.cmpi .ne (Scalar.extui (Scalar.cmpi .slt (BitVec.ofNat 32 (i 0).val) (word T1))) 0#32) = 1#1) (h3 : ¬((Scalar.cmpi .ne (Scalar.extui (Scalar.cmpi .eq (BitVec.ofNat 32 (i 1).val) 0#32)) 0#32) = 1#1)) (h4 : (Scalar.cmpi .ne (Scalar.extui (Scalar.cmpi .sgt (BitVec.ofNat 32 (i 1).val) 0#32)) 0#32) = 1#1) (h5 : ¬(k0_cond5 i (word T1) = 1#1)) (h6 : ¬(k0_cond6 i (word T1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare y4 ∗ owns (c : Thread nD τ) sc0 fullShare a0 ∗ owns (c : Thread nD τ) sc1 fullShare a1
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare y4 ∗ owns (c : Thread nD τ) sc0 fullShare (a0) ∗ owns (c : Thread nD τ) sc1 fullShare (k0_pay4 a0 x1 x2 x3 a1)) -∗ K ⟨⟩))
      ⊢ wp frame (wpE (defs₀ (F := F)) Variants.none c none) Set.univ (cc0_expert_ffn i tb0 (Memref.isWhole_whole _) tb1 (Memref.isWhole_whole _) arg4 harg4 arg5 harg5 arg6 harg6 arg7 harg7 arg8 harg8 sc0 (Memref.isWhole_whole _) sc1 (Memref.isWhole_whole _)) K := by
  rw [cc0_expert_ffn_eq_skeleton]; unfold cc0_expert_ffn_skel
  unfold owns
  iintro ⟨⟨%f4, %hf4, H4⟩, ⟨%f5, %hf5, H5⟩, ⟨%f6, %hf6, H6⟩, ⟨%f7, %hf7, H7⟩, HT1, ⟨%f8, %hf8, H8⟩, ⟨%g0, %hg0, HS0⟩, ⟨%g1, %hg1, HS1⟩, Hk⟩
  have hS0 : sc0.IsWhole := Memref.isWhole_whole _
  have hS1 : sc1.IsWhole := Memref.isWhole_whole _
  have hT1 : tb1.IsWhole := Memref.isWhole_whole _
  sl_exec! (disch := first | (guard_target = ¬(Scalar.cmpi = _); exact hc0) | (guard_target = Scalar.cmpi = _; exact hc1) | (guard_target = ¬(Scalar.cmpi = _); exact h3) | (guard_target = Scalar.cmpi = _; exact h4) | (guard_target = ¬(k0_cond5 _ _ = _); exact h5) | (guard_target = ¬(k0_cond6 _ _ = _); exact h6))
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [HT1]; · iexact HT1
  isplitl [H8]
  · iexists _; isplitr; swap; · iexact H8
    ipureintro
    exact hf8
  isplitl [HS0]
  · iexists _; isplitr; swap; · iexact HS0
    ipureintro
    exact hg0
  iexists _; isplitr; swap; · iexact HS1
  ipureintro
  refine (View.read_writes_full _ _ _ _ _).trans ?_; rw [← hg0, ← View.readAt_full sc0.view _ inb_S1024x1024_S1024x1024_0_0, ← hf5, ← View.readAt_full arg5.view _ inb_S1x1024x512_S1x1024x512_0_0_0, ← hf6, ← View.readAt_full arg6.view _ inb_S1x1024x512_S1x1024x512_0_0_0, ← hf7, ← View.readAt_full arg7.view _ inb_S1x512x1024_S1x512x1024_0_0_0, ← hg1, ← View.readAt_full sc1.view _ inb_S1024x1024_S1024x1024_0_0]

set_option maxHeartbeats 4000000 in
/-- The tile is in use, at its last hidden tile: the same, and the sum written out. -/
theorem run_last (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (T1 : S1.Idx → Elt F .i32)
    (x0 : Vec F S1024x1024 .f32) (x1 : Vec F S1x1024x512 .bf16) (x2 : Vec F S1x1024x512 .bf16) (x3 : Vec F S1x512x1024 .bf16) (a0 : Vec F S1024x1024 .bf16) (a1 : Vec F S1024x1024 .f32)
    (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : (Scalar.cmpi .ne (Scalar.extui (Scalar.cmpi .slt (BitVec.ofNat 32 (i 0).val) (word T1))) 0#32) = 1#1) (h3 : ¬((Scalar.cmpi .ne (Scalar.extui (Scalar.cmpi .eq (BitVec.ofNat 32 (i 1).val) 0#32)) 0#32) = 1#1)) (h4 : (Scalar.cmpi .ne (Scalar.extui (Scalar.cmpi .sgt (BitVec.ofNat 32 (i 1).val) 0#32)) 0#32) = 1#1) (h5 : k0_cond5 i (word T1) = 1#1) (h6 : ¬(k0_cond6 i (word T1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ (∃ d, owns (c : Thread nD τ) arg8 fullShare d) ∗ owns (c : Thread nD τ) sc0 fullShare a0 ∗ owns (c : Thread nD τ) sc1 fullShare a1
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare (k0_pay4 a0 x1 x2 x3 a1) ∗ owns (c : Thread nD τ) sc0 fullShare (a0) ∗ owns (c : Thread nD τ) sc1 fullShare (k0_pay4 a0 x1 x2 x3 a1)) -∗ K ⟨⟩))
      ⊢ wp frame (wpE (defs₀ (F := F)) Variants.none c none) Set.univ (cc0_expert_ffn i tb0 (Memref.isWhole_whole _) tb1 (Memref.isWhole_whole _) arg4 harg4 arg5 harg5 arg6 harg6 arg7 harg7 arg8 harg8 sc0 (Memref.isWhole_whole _) sc1 (Memref.isWhole_whole _)) K := by
  rw [cc0_expert_ffn_eq_skeleton]; unfold cc0_expert_ffn_skel
  unfold owns
  iintro ⟨⟨%f4, %hf4, H4⟩, ⟨%f5, %hf5, H5⟩, ⟨%f6, %hf6, H6⟩, ⟨%f7, %hf7, H7⟩, HT1, ⟨%d8, %f8, -, H8⟩, ⟨%g0, %hg0, HS0⟩, ⟨%g1, %hg1, HS1⟩, Hk⟩
  have hS0 : sc0.IsWhole := Memref.isWhole_whole _
  have hS1 : sc1.IsWhole := Memref.isWhole_whole _
  have hT1 : tb1.IsWhole := Memref.isWhole_whole _
  sl_exec! (disch := first | (guard_target = ¬(Scalar.cmpi = _); exact hc0) | (guard_target = Scalar.cmpi = _; exact hc1) | (guard_target = ¬(Scalar.cmpi = _); exact h3) | (guard_target = Scalar.cmpi = _; exact h4) | (guard_target = k0_cond5 _ _ = _; exact h5) | (guard_target = ¬(k0_cond6 _ _ = _); exact h6))
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [HT1]; · iexact HT1
  isplitl [H8]
  · iexists _; isplitr; swap; · iexact H8
    ipureintro
    refine (View.read_writes_full _ _ _ _ _).trans ?_; rw [← hg0, ← View.readAt_full sc0.view _ inb_S1024x1024_S1024x1024_0_0, ← hf5, ← View.readAt_full arg5.view _ inb_S1x1024x512_S1x1024x512_0_0_0, ← hf6, ← View.readAt_full arg6.view _ inb_S1x1024x512_S1x1024x512_0_0_0, ← hf7, ← View.readAt_full arg7.view _ inb_S1x512x1024_S1x512x1024_0_0_0, ← hg1, ← View.readAt_full sc1.view _ inb_S1024x1024_S1024x1024_0_0]; exact View.readCov_full (Val := Elt F) sc1.view inb_S1024x1024_S1024x1024_0_0 inb_S1024x1024_S1024x1024_0_0 _ []
  isplitl [HS0]
  · iexists _; isplitr; swap; · iexact HS0
    ipureintro
    exact hg0
  iexists _; isplitr; swap; · iexact HS1
  ipureintro
  refine (View.read_writes_full _ _ _ _ _).trans ?_; rw [← hg0, ← View.readAt_full sc0.view _ inb_S1024x1024_S1024x1024_0_0, ← hf5, ← View.readAt_full arg5.view _ inb_S1x1024x512_S1x1024x512_0_0_0, ← hf6, ← View.readAt_full arg6.view _ inb_S1x1024x512_S1x1024x512_0_0_0, ← hf7, ← View.readAt_full arg7.view _ inb_S1x512x1024_S1x512x1024_0_0_0, ← hg1, ← View.readAt_full sc1.view _ inb_S1024x1024_S1024x1024_0_0]

set_option maxHeartbeats 4000000 in
/-- The tile is not in use, before its last hidden tile: nothing. -/
theorem run_skip (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (T1 : S1.Idx → Elt F .i32)
    (x0 : Vec F S1024x1024 .f32) (x1 : Vec F S1x1024x512 .bf16) (x2 : Vec F S1x1024x512 .bf16) (x3 : Vec F S1x512x1024 .bf16) (a0 : Vec F S1024x1024 .bf16) (a1 : Vec F S1024x1024 .f32) (y4 : Vec F S1024x1024 .f32)
    (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : ¬((Scalar.cmpi .ne (Scalar.extui (Scalar.cmpi .slt (BitVec.ofNat 32 (i 0).val) (word T1))) 0#32) = 1#1)) (h5 : ¬(k0_cond5 i (word T1) = 1#1)) (h6 : ¬(k0_cond6 i (word T1) = 1#1)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare y4 ∗ owns (c : Thread nD τ) sc0 fullShare a0 ∗ owns (c : Thread nD τ) sc1 fullShare a1
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare y4 ∗ owns (c : Thread nD τ) sc0 fullShare (a0) ∗ owns (c : Thread nD τ) sc1 fullShare (a1)) -∗ K ⟨⟩))
      ⊢ wp frame (wpE (defs₀ (F := F)) Variants.none c none) Set.univ (cc0_expert_ffn i tb0 (Memref.isWhole_whole _) tb1 (Memref.isWhole_whole _) arg4 harg4 arg5 harg5 arg6 harg6 arg7 harg7 arg8 harg8 sc0 (Memref.isWhole_whole _) sc1 (Memref.isWhole_whole _)) K := by
  rw [cc0_expert_ffn_eq_skeleton]; unfold cc0_expert_ffn_skel
  unfold owns
  iintro ⟨⟨%f4, %hf4, H4⟩, ⟨%f5, %hf5, H5⟩, ⟨%f6, %hf6, H6⟩, ⟨%f7, %hf7, H7⟩, HT1, ⟨%f8, %hf8, H8⟩, ⟨%g0, %hg0, HS0⟩, ⟨%g1, %hg1, HS1⟩, Hk⟩
  have hS0 : sc0.IsWhole := Memref.isWhole_whole _
  have hS1 : sc1.IsWhole := Memref.isWhole_whole _
  have hT1 : tb1.IsWhole := Memref.isWhole_whole _
  sl_exec! (disch := first | (guard_target = ¬(Scalar.cmpi = _); exact hc0) | (guard_target = ¬(Scalar.cmpi = _); exact hc1) | (guard_target = ¬(k0_cond5 _ _ = _); exact h5) | (guard_target = ¬(k0_cond6 _ _ = _); exact h6))
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [HT1]; · iexact HT1
  isplitl [H8]
  · iexists _; isplitr; swap; · iexact H8
    ipureintro
    exact hf8
  isplitl [HS0]
  · iexists _; isplitr; swap; · iexact HS0
    ipureintro
    exact hg0
  iexists _; isplitr; swap; · iexact HS1
  ipureintro
  exact hg1

set_option maxHeartbeats 4000000 in
/-- The tile is not in use, at its last hidden tile: zeros written out. -/
theorem run_zero (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (T1 : S1.Idx → Elt F .i32)
    (x0 : Vec F S1024x1024 .f32) (x1 : Vec F S1x1024x512 .bf16) (x2 : Vec F S1x1024x512 .bf16) (x3 : Vec F S1x512x1024 .bf16) (a0 : Vec F S1024x1024 .bf16) (a1 : Vec F S1024x1024 .f32)
    (hc0 : ¬((Scalar.cmpi .ne (Scalar.extui (Scalar.andi (Scalar.cmpi .slt (BitVec.ofNat 32 (i 0).val) (word T1)) (Scalar.cmpi .eq (BitVec.ofNat 32 (i 1).val) 0#32))) 0#32) = 1#1)) (hc1 : ¬((Scalar.cmpi .ne (Scalar.extui (Scalar.cmpi .slt (BitVec.ofNat 32 (i 0).val) (word T1))) 0#32) = 1#1)) (h5 : ¬(k0_cond5 i (word T1) = 1#1)) (h6 : k0_cond6 i (word T1) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ (∃ d, owns (c : Thread nD τ) arg8 fullShare d) ∗ owns (c : Thread nD τ) sc0 fullShare a0 ∗ owns (c : Thread nD τ) sc1 fullShare a1
        ∗ (iprop(owns (c : Thread nD τ) arg4 fullShare x0 ∗ owns (c : Thread nD τ) arg5 fullShare x1 ∗ owns (c : Thread nD τ) arg6 fullShare x2 ∗ owns (c : Thread nD τ) arg7 fullShare x3 ∗ (tb1.view.loc (c : Thread nD τ) ↦{fullShare.right} T1) ∗ owns (c : Thread nD τ) arg8 fullShare (k0_pay5) ∗ owns (c : Thread nD τ) sc0 fullShare (a0) ∗ owns (c : Thread nD τ) sc1 fullShare (a1)) -∗ K ⟨⟩))
      ⊢ wp frame (wpE (defs₀ (F := F)) Variants.none c none) Set.univ (cc0_expert_ffn i tb0 (Memref.isWhole_whole _) tb1 (Memref.isWhole_whole _) arg4 harg4 arg5 harg5 arg6 harg6 arg7 harg7 arg8 harg8 sc0 (Memref.isWhole_whole _) sc1 (Memref.isWhole_whole _)) K := by
  rw [cc0_expert_ffn_eq_skeleton]; unfold cc0_expert_ffn_skel
  unfold owns
  iintro ⟨⟨%f4, %hf4, H4⟩, ⟨%f5, %hf5, H5⟩, ⟨%f6, %hf6, H6⟩, ⟨%f7, %hf7, H7⟩, HT1, ⟨%d8, %f8, -, H8⟩, ⟨%g0, %hg0, HS0⟩, ⟨%g1, %hg1, HS1⟩, Hk⟩
  have hS0 : sc0.IsWhole := Memref.isWhole_whole _
  have hS1 : sc1.IsWhole := Memref.isWhole_whole _
  have hT1 : tb1.IsWhole := Memref.isWhole_whole _
  sl_exec! (disch := first | (guard_target = ¬(Scalar.cmpi = _); exact hc0) | (guard_target = ¬(Scalar.cmpi = _); exact hc1) | (guard_target = ¬(k0_cond5 _ _ = _); exact h5) | (guard_target = k0_cond6 _ _ = _; exact h6))
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [HT1]; · iexact HT1
  isplitl [H8]
  · iexists _; isplitr; swap; · iexact H8
    ipureintro
    refine (View.read_writes_full _ _ _ _ _).trans ?_; rfl
  isplitl [HS0]
  · iexists _; isplitr; swap; · iexact HS0
    ipureintro
    exact hg0
  iexists _; isplitr; swap; · iexact HS1
  ipureintro
  exact hg1

end Cert.ExpertIdeal.Hand

end
-- ==== Proof.ExpertIdealFrame.lean ====
/-
  The expert feed-forward kernel at any tables whose entries name an expert: the pipeline at those tables, what the scratch
  buffers and the output block hold point by point, the body at every point, the launch and the frame.
-/
module

public import proofs.«01_k».proof.Proof.ExpertIdealRun
public import Idealize.ShloMosaic.Lib.Pipeline.ValueKit
public import Idealize.ShloMosaic.Adequacy
public import Idealize.ShloMosaic.Init

@[expose] public section

set_option maxRecDepth 16384
set_option Elab.async false

noncomputable section

namespace Cert.ExpertIdeal.Hand

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline's cells, in the resource algebra of the proof. -/
abbrev cells₁ : Emb (UR sig nD τ) 𝕄 := emb₁

/-! ## The side condition on the tables -/

/-- The expert of a tile, as the block maps read it. -/
theorem expert_of (pf : pre0.Contents (Elt F)) (h : ∀ y : S72.Idx, (show BitVec 32 from pf 0 y).toNat < 8) (i : grid0.Coords) :
    (cc0_transform_1 k0_off1_inb numel1_S1 pf i 0 < 8 ∧ cc0_transform_2 k0_off1_inb numel1_S1 pf i 0 < 8) ∧ cc0_transform_3 k0_off1_inb numel1_S1 pf i 0 < 8 :=
  ⟨⟨h _, h _⟩, h _⟩

theorem tile1 : ∀ f : Fin 7, ((BitVec.ofNat 32 f.val).toNat + 1) * 512 ≤ 3584 := by decide

/-- Tables whose entries name one of the eight experts put every block inside its array. -/
theorem ok_of (pf : pre0.Contents (Elt F)) (h : ∀ y : S72.Idx, (show BitVec 32 from pf 0 y).toNat < 8) : ok0 pf := by
  refine ⟨fun i => ⟨fun x => ?_, .inr (Affine.block_words_dvd (s := S8x1024x3584) (p := EltTy.packing .bf16) (by decide) (by decide))⟩,
    fun i => ⟨fun x => ?_, .inr (Affine.block_words_dvd (s := S8x1024x3584) (p := EltTy.packing .bf16) (by decide) (by decide))⟩,
    fun i => ⟨fun x => ?_, .inr (Affine.block_words_dvd (s := S8x3584x1024) (p := EltTy.packing .bf16) (by decide) (by decide))⟩⟩
  · have e := (expert_of pf h i).1.1
    fin_cases x
    · show (cc0_transform_1 k0_off1_inb numel1_S1 pf i 0 + 1) * 1 ≤ 8; omega
    · show (0 + 1) * 1024 ≤ 1024; omega
    · exact tile1 (i 1)
  · have e := (expert_of pf h i).1.2
    fin_cases x
    · show (cc0_transform_2 k0_off1_inb numel1_S1 pf i 0 + 1) * 1 ≤ 8; omega
    · show (0 + 1) * 1024 ≤ 1024; omega
    · exact tile1 (i 1)
  · have e := (expert_of pf h i).2
    fin_cases x
    · show (cc0_transform_3 k0_off1_inb numel1_S1 pf i 0 + 1) * 1 ≤ 8; omega
    · exact tile1 (i 1)
    · show (0 + 1) * 1024 ≤ 1024; omega

/-! ## The pipeline at the tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev crd (t : Fin (cfgA a).N) : (cfgA a).grid.Coords := (cfgA a).grid.coords t
abbrev ms0 (t : Fin (cfgA a).N) : Memref sig .tc .vmem S1024x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .bf16 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .bf16 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .bf16 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S1024x1024 .f32 := spec0_4.stage ((cfgA a).slots t (4 : Fin 5))
abbrev hs4 (t : Fin (cfgA a).N) : (ms4 a t).IsWhole := hstage0_4 (((cfgA a).slots t (4 : Fin 5)).cast nbuf0_4)

/-- Point `t` is hidden tile `t % 7` of row tile `t / 7`. -/
theorem crd_val : ∀ t : Fin grid0.N, (grid0.coords t 0).val = t.val / 7 ∧ (grid0.coords t 1).val = t.val % 7 := by decide +kernel

/-- Row tile `i` is one of those in use. -/
abbrev used (t : Fin (cfgA a).N) : Prop := Scalar.cmpi .slt (BitVec.ofNat 32 (crd a t 0).val) (word (a.1 1)) = 1#1

theorem used_congr (t u : Fin (cfgA a).N) (h : t.val / 7 = u.val / 7) : used a t ↔ used a u := by
  unfold used
  rw [show (crd a t 0).val = (crd a u 0).val from ((crd_val t).1.trans h).trans (crd_val u).1.symm]

/-! ## The body's conditions, by the row tile being in use and the hidden tile -/

theorem cond_b (u : BitVec 1) (h : ¬ u = 1#1) : u = 0#1 := by
  have := u.isLt
  apply BitVec.eq_of_toNat_eq
  have h1 : u.toNat ≠ 1 := fun e => h (BitVec.eq_of_toNat_eq e)
  show u.toNat = 0
  omega

theorem c0_used : ∀ f : Fin 7, (Scalar.cmpi .ne (Scalar.extui (Scalar.andi 1#1 (Scalar.cmpi .eq (BitVec.ofNat 32 f.val) 0#32)) : BitVec 32) 0#32 = 1#1) ↔ f.val = 0 := by decide
theorem c0_not : ∀ f : Fin 7, ¬ (Scalar.cmpi .ne (Scalar.extui (Scalar.andi 0#1 (Scalar.cmpi .eq (BitVec.ofNat 32 f.val) 0#32)) : BitVec 32) 0#32 = 1#1) := by decide
theorem c1_used : Scalar.cmpi .ne (Scalar.extui (1#1 : BitVec 1) : BitVec 32) 0#32 = 1#1 := by decide
theorem c1_not : ¬ Scalar.cmpi .ne (Scalar.extui (0#1 : BitVec 1) : BitVec 32) 0#32 = 1#1 := by decide
theorem c3_iff : ∀ f : Fin 7, (Scalar.cmpi .ne (Scalar.extui (Scalar.cmpi .eq (BitVec.ofNat 32 f.val) 0#32) : BitVec 32) 0#32 = 1#1) ↔ f.val = 0 := by decide
theorem c4_iff : ∀ f : Fin 7, (Scalar.cmpi .ne (Scalar.extui (Scalar.cmpi .sgt (BitVec.ofNat 32 f.val) 0#32) : BitVec 32) 0#32 = 1#1) ↔ ¬ f.val = 0 := by decide
theorem c5_used : ∀ f : Fin 7, (Scalar.cmpi .ne (Scalar.extui (Scalar.andi 1#1 (Scalar.cmpi .eq (BitVec.ofNat 32 f.val) 6#32)) : BitVec 32) 0#32 = 1#1) ↔ f.val = 6 := by decide
theorem c5_not : ∀ f : Fin 7, ¬ (Scalar.cmpi .ne (Scalar.extui (Scalar.andi 0#1 (Scalar.cmpi .eq (BitVec.ofNat 32 f.val) 6#32)) : BitVec 32) 0#32 = 1#1) := by decide
theorem c6_used : ∀ f : Fin 7, ¬ (Scalar.cmpi .ne (Scalar.extui (Scalar.andi (Scalar.xori 1#1 1#1) (Scalar.cmpi .eq (BitVec.ofNat 32 f.val) 6#32)) : BitVec 32) 0#32 = 1#1) := by decide
theorem c6_not : ∀ f : Fin 7, (Scalar.cmpi .ne (Scalar.extui (Scalar.andi (Scalar.xori 0#1 1#1) (Scalar.cmpi .eq (BitVec.ofNat 32 f.val) 6#32)) : BitVec 32) 0#32 = 1#1) ↔ f.val = 6 := by decide

/-- The five conditions at a point of a row tile in use. -/
theorem conds_used (i : grid0.Coords) (w : BitVec 32) (h : Scalar.cmpi .slt (BitVec.ofNat 32 (i 0).val) w = 1#1) :
    ((Scalar.cmpi .ne (Scalar.extui (Scalar.andi (Scalar.cmpi .slt (BitVec.ofNat 32 (i 0).val) w) (Scalar.cmpi .eq (BitVec.ofNat 32 (i 1).val) 0#32)) : BitVec 32) 0#32 = 1#1) ↔ (i 1).val = 0)
      ∧ (Scalar.cmpi .ne (Scalar.extui (Scalar.cmpi .slt (BitVec.ofNat 32 (i 0).val) w) : BitVec 32) 0#32 = 1#1)
      ∧ (k0_cond5 i w = 1#1 ↔ (i 1).val = 6) ∧ ¬ k0_cond6 i w = 1#1 := by
  unfold k0_cond5 k0_cond6
  simp only [h]
  exact ⟨c0_used (i 1), c1_used, c5_used (i 1), c6_used (i 1)⟩

/-- And of one not in use. -/
theorem conds_not (i : grid0.Coords) (w : BitVec 32) (h : ¬ Scalar.cmpi .slt (BitVec.ofNat 32 (i 0).val) w = 1#1) :
    (¬ Scalar.cmpi .ne (Scalar.extui (Scalar.andi (Scalar.cmpi .slt (BitVec.ofNat 32 (i 0).val) w) (Scalar.cmpi .eq (BitVec.ofNat 32 (i 1).val) 0#32)) : BitVec 32) 0#32 = 1#1)
      ∧ (¬ Scalar.cmpi .ne (Scalar.extui (Scalar.cmpi .slt (BitVec.ofNat 32 (i 0).val) w) : BitVec 32) 0#32 = 1#1)
      ∧ (¬ k0_cond5 i w = 1#1) ∧ (k0_cond6 i w = 1#1 ↔ (i 1).val = 6) := by
  have h := cond_b _ h
  unfold k0_cond5 k0_cond6
  simp only [h]
  exact ⟨c0_not (i 1), c1_not, c5_not (i 1), c6_not (i 1)⟩

/-! ## The output window: written back at the last hidden tile, and only there stored into -/

theorem atD_word : a.1.atD 1 ![0] = word (a.1 1) := by
  unfold Pipeline.Prefetch.Contents.atD
  refine (dif_pos (show ∀ x : Fin 1, (![0] : Fin 1 → ℕ) x + 1 ≤ S1.size x by decide)).trans ?_
  exact congrArg (a.1 1) (Subsingleton.elim (α := S1.Idx) (h := ⟨fun x y => funext fun k => by
    have hx := (x k).isLt; have hy := (y k).isLt
    fin_cases k
    exact Fin.ext (by have hx : (x 0).val < 1 := hx; have hy : (y 0).val < 1 := hy; show (x 0).val = (y 0).val; omega)⟩) _ _)

theorem idle4 (t : Fin (cfgA a).N) : (cfgA a).idle (4 : Fin 5) ((cfgA a).grid.coords t) = !decide (t.val % 7 = 6) := by
  show (!(k0_cond5 (crd a t) (a.1.atD 1 ![0]) == 1#1) && !(k0_cond6 (crd a t) (a.1.atD 1 ![0]) == 1#1)) = _
  rw [atD_word, ← (crd_val t).2]
  by_cases h : used a t
  · obtain ⟨-, -, h5, h6⟩ := conds_used _ _ h
    rw [show (k0_cond6 (crd a t) (word (a.1 1)) == 1#1) = false from beq_eq_false_iff_ne.mpr h6]
    by_cases hf : ((crd a t) 1).val = 6
    · rw [h5.mpr hf]; simp [hf]
    · rw [show (k0_cond5 (crd a t) (word (a.1 1)) == 1#1) = false from beq_eq_false_iff_ne.mpr fun e => hf (h5.mp e)]; simp [hf]
  · obtain ⟨-, -, h5, h6⟩ := conds_not _ _ h
    rw [show (k0_cond5 (crd a t) (word (a.1 1)) == 1#1) = false from beq_eq_false_iff_ne.mpr h5]
    by_cases hf : ((crd a t) 1).val = 6
    · rw [h6.mpr hf]; simp [hf]
    · rw [show (k0_cond6 (crd a t) (word (a.1 1)) == 1#1) = false from beq_eq_false_iff_ne.mpr fun e => hf (h6.mp e)]; simp [hf]

theorem index4 (t : Fin (cfgA a).N) : ((cfgA a).win (4 : Fin 5)).index t = ![t.val / 7, 0] := by
  have h : t.val / 7 < 72 := by have := t.isLt; have : (cfgA a).N = 504 := N_0; omega
  show cc0_transform_4 (crd a t) = _
  unfold cc0_transform_4
  show ![(BitVec.ofNat 32 (crd a t 0).val).toNat, 0] = _
  rw [show (crd a t 0).val = t.val / 7 from (crd_val t).1, BitVec.toNat_ofNat, Nat.mod_eq_of_lt (by omega)]

theorem flush4 (t : Fin (cfgA a).N) : ((cfgA a).win (4 : Fin 5)).flush t = decide (t.val % 7 = 6) := by
  have hN : (cfgA a).N = 504 := N_0
  have ht := t.isLt
  rw [Pipeline.Window.flush_eq_flushF]
  unfold Pipeline.Window.flushF
  show (true && (decide (t.val + 1 = (cfgA a).N) || _)) = _
  rw [Bool.true_and, ← Bool.decide_or]
  refine decide_eq_decide.mpr ⟨?_, ?_⟩
  · rintro (h | ⟨h, x, hx⟩)
    · omega
    · rw [index4, index4] at hx
      by_contra hne
      have e : (t.val + 1) / 7 = t.val / 7 := by omega
      exact hx (by rw [e])
  · intro h
    by_cases hl : t.val + 1 = (cfgA a).N
    · exact .inl hl
    · refine .inr ⟨Nat.lt_of_le_of_ne ht hl, (0 : Fin 2), ?_⟩
      rw [index4, index4]
      show (t.val + 1) / 7 ≠ t.val / 7
      omega

theorem fresh4 (t : Fin (cfgA a).N) : (cfgA a).fresh (4 : Fin 5) t.val = true :=
  Pipeline.Cfg.fresh_tab (cfgA a) (4 : Fin 5) (fun _ => true) rfl (fun u => by
    rw [idle4, flush4]; by_cases h : u.val % 7 = 6 <;> simp [h]) t.val (Nat.le_of_lt t.isLt)

/-! ## What the scratch buffers hold -/

variable (m : (ℓ : Loc nD τ sig) → Buf (Elt F) ℓ) (ρ : Dev nD → PrngReg)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The four input blocks of a point, at their shapes. -/
abbrev b0 (c : Dev nD) (t : Fin (cfgA a).N) : Vec F S1024x1024 .f32 := iblk a m c (0 : Fin 5) t
abbrev b1 (c : Dev nD) (t : Fin (cfgA a).N) : Vec F S1x1024x512 .bf16 := iblk a m c (1 : Fin 5) t
abbrev b2 (c : Dev nD) (t : Fin (cfgA a).N) : Vec F S1x1024x512 .bf16 := iblk a m c (2 : Fin 5) t
abbrev b3 (c : Dev nD) (t : Fin (cfgA a).N) : Vec F S1x512x1024 .bf16 := iblk a m c (3 : Fin 5) t

theorem index0 (t : Fin (cfgA a).N) : ((cfgA a).win (0 : Fin 5)).index t = ![t.val / 7, 0] := by
  have h : t.val / 7 < 72 := by have := t.isLt; have : (cfgA a).N = 504 := N_0; omega
  show cc0_transform_0 (crd a t) = _
  unfold cc0_transform_0
  show ![(BitVec.ofNat 32 (crd a t 0).val).toNat, 0] = _
  rw [show (crd a t 0).val = t.val / 7 from (crd_val t).1, BitVec.toNat_ofNat, Nat.mod_eq_of_lt (by omega)]

/-- The hidden tiles of one row tile read one input block. -/
theorem b0_congr (c : Dev nD) (t u : Fin (cfgA a).N) (h : t.val / 7 = u.val / 7) : b0 a m c t = b0 a m c u := by
  funext y
  refine congrArg (m ((c : Thread nD τ).loc main_arg0)) (funext fun x => Fin.ext ?_)
  show ((cfgA a).win (0 : Fin 5)).index t x * S1024x1024.size x + 1 * (y x).val = ((cfgA a).win (0 : Fin 5)).index u x * S1024x1024.size x + 1 * (y x).val
  rw [index0, index0, h]

/-- The accumulated sum before position `n`, in a row tile in use. -/
def acc (c : Dev nD) : ℕ → Vec F S1024x1024 .f32
  | 0 => k0_pay5
  | n + 1 => if h : n < (cfgA a).N then
      (if n % 7 = 0 then k0_pay3 (k0_pay1 (b0 a m c ⟨n, h⟩)) (b1 a m c ⟨n, h⟩) (b2 a m c ⟨n, h⟩) (b3 a m c ⟨n, h⟩)
       else k0_pay4 (k0_pay1 (b0 a m c ⟨n, h⟩)) (b1 a m c ⟨n, h⟩) (b2 a m c ⟨n, h⟩) (b3 a m c ⟨n, h⟩) (acc c n))
    else k0_pay5

theorem acc_first (c : Dev nD) (t : Fin (cfgA a).N) (h : t.val % 7 = 0) :
    acc a m c (t.val + 1) = k0_pay3 (k0_pay1 (b0 a m c t)) (b1 a m c t) (b2 a m c t) (b3 a m c t) := by
  rw [acc, dif_pos t.isLt, if_pos h]
theorem acc_next (c : Dev nD) (t : Fin (cfgA a).N) (h : ¬ t.val % 7 = 0) :
    acc a m c (t.val + 1) = k0_pay4 (k0_pay1 (b0 a m c t)) (b1 a m c t) (b2 a m c t) (b3 a m c t) (acc a m c t.val) := by
  rw [acc, dif_pos t.isLt, if_neg h]

/-- What the scratch buffers hold before position `n`: inside a row tile in use, its cast block and the sum so far. -/
def Good (c : Dev nD) (g0 : Vec F S1024x1024 .bf16) (g1 : Vec F S1024x1024 .f32) : ℕ → Prop
  | 0 => True
  | n + 1 => ∀ h : n < (cfgA a).N, (n + 1) % 7 ≠ 0 → used a ⟨n, h⟩ → g0 = k0_pay1 (b0 a m c ⟨n, h⟩) ∧ g1 = acc a m c (n + 1)

theorem good_at (c : Dev nD) (g0 g1) (t : Fin (cfgA a).N) (hf : ¬ t.val % 7 = 0) (hu : used a t) (h : Good a m c g0 g1 t.val) :
    g0 = k0_pay1 (b0 a m c t) ∧ g1 = acc a m c t.val := by
  obtain ⟨n, hn⟩ := t
  cases n with
  | zero => exact absurd rfl hf
  | succ n =>
    have hd : (n + 1) / 7 = n / 7 := by simp only at hf; omega
    obtain ⟨e0, e1⟩ := h (Nat.lt_of_succ_lt hn) hf ((used_congr a ⟨n + 1, hn⟩ ⟨n, Nat.lt_of_succ_lt hn⟩ hd).mp hu)
    exact ⟨e0.trans (by rw [b0_congr a m c ⟨n + 1, hn⟩ ⟨n, Nat.lt_of_succ_lt hn⟩ hd]), e1⟩

theorem good_succ (c : Dev nD) (t : Fin (cfgA a).N) : Good a m c (k0_pay1 (b0 a m c t)) (acc a m c (t.val + 1)) (t.val + 1) :=
  fun h _ _ => ⟨rfl, rfl⟩
theorem good_not (c : Dev nD) (g0 g1) (t : Fin (cfgA a).N) (hu : ¬ used a t) : Good a m c g0 g1 (t.val + 1) :=
  fun h _ h' => absurd h' hu

/-- What the output block holds after a point that stores it. -/
def outAt (c : Dev nD) (t : Fin (cfgA a).N) : Vec F S1024x1024 .f32 :=
  open Classical in if used a t then acc a m c (t.val + 1) else k0_pay5

/-! ## The pipeline's proof data -/

/-- The invariant before position `t`. -/
def Phi (c : Dev nD) (t : Fin ((cfgA a).N + 1)) : sProp 𝕄 :=
  iprop((∃ g0, ∃ g1, ⌜Good a m c g0 g1 t.val⌝ ∗ owns (c : Thread nD τ) sc0 fullShare g0 ∗ owns (c : Thread nD τ) sc1 fullShare g1)
    ∗ (tb0.view.loc (c : Thread nD τ) ↦{fullShare.right} a.1 0) ∗ (tb1.view.loc (c : Thread nD τ) ↦{fullShare.right} a.1 1))

/-- The proof data of the one pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => outAt a m c t
  Φ t := Phi a m c t
  q _ := fullShare
  owed _ := 0

theorem after_0 (c : Dev nD) (t : Fin (cfgA a).N) : (dats a m 0 c).after (0 : Fin 5) t = iblk a m c (0 : Fin 5) t := rfl
theorem after_1 (c : Dev nD) (t : Fin (cfgA a).N) : (dats a m 0 c).after (1 : Fin 5) t = iblk a m c (1 : Fin 5) t := rfl
theorem after_2 (c : Dev nD) (t : Fin (cfgA a).N) : (dats a m 0 c).after (2 : Fin 5) t = iblk a m c (2 : Fin 5) t := rfl
theorem after_3 (c : Dev nD) (t : Fin (cfgA a).N) : (dats a m 0 c).after (3 : Fin 5) t = iblk a m c (3 : Fin 5) t := rfl
theorem after_4 (c : Dev nD) (t : Fin (cfgA a).N) : (dats a m 0 c).after (4 : Fin 5) t = outAt a m c t := rfl

theorem before_0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m 0 c).before (4 : Fin 5) t d = d := by
  rw [(dats a m 0 c).before_out_traj (4 : Fin 5) rfl (fun _ _ => rfl) (fun u _ _ hf => by rw [fresh4] at hf; exact absurd hf (by decide)) t.val t rfl d,
    fresh4, if_pos rfl]

/-! ## The body at a point -/

/-- The body at point `t`, on its staging buffers. -/
abbrev bodyAt (t : Fin (cfgA a).N) : Prog (TpuEff nD τ sig (Elt F) Λ₀ .tc) PUnit :=
  cc0_expert_ffn (crd a t) tb0 (Memref.isWhole_whole _) tb1 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

/-- What the body is handed, and what it hands back. -/
abbrev pre (c : Dev nD) (t : Fin (cfgA a).N) : sProp 𝕄 :=
  iprop(Phi a m c t.castSucc ∗ (dats a m 0 c).owesAt () t.castSucc
    ∗ owns (c : Thread nD τ) (ms0 a t) fullShare (b0 a m c t) ∗ owns (c : Thread nD τ) (ms1 a t) fullShare (b1 a m c t)
    ∗ owns (c : Thread nD τ) (ms2 a t) fullShare (b2 a m c t) ∗ owns (c : Thread nD τ) (ms3 a t) fullShare (b3 a m c t)
    ∗ (∃ d, owns (c : Thread nD τ) (ms4 a t) fullShare d))
abbrev post (c : Dev nD) (t : Fin (cfgA a).N) (P4 : sProp 𝕄) : sProp 𝕄 :=
  iprop(Phi a m c t.succ ∗ (dats a m 0 c).owesAt () t.castSucc
    ∗ owns (c : Thread nD τ) (ms0 a t) fullShare (b0 a m c t) ∗ owns (c : Thread nD τ) (ms1 a t) fullShare (b1 a m c t)
    ∗ owns (c : Thread nD τ) (ms2 a t) fullShare (b2 a m c t) ∗ owns (c : Thread nD τ) (ms3 a t) fullShare (b3 a m c t)
    ∗ P4)

set_option maxHeartbeats 4000000 in
/-- The body at the last hidden tile of a row tile: the sum written out, or zeros. -/
theorem body_last (c : Dev nD) (t : Fin (cfgA a).N) (hf : t.val % 7 = 6) :
    pre a m c t ⊢ wp frame (wpE (defs₀ (F := F)) Variants.none c none) Set.univ (bodyAt a t) fun _ =>
      post a m c t (owns (c : Thread nD τ) (ms4 a t) fullShare (outAt a m c t)) := by
  have hf1 : (crd a t 1).val = 6 := (crd_val t).2.trans hf
  have hf0 : ¬ (crd a t 1).val = 0 := by omega
  have hv : t.castSucc.val = t.val := rfl
  have hw : t.succ.val = t.val + 1 := rfl
  unfold pre post Phi
  iintro ⟨⟨⟨%g0, %g1, %hg, HS0, HS1⟩, HT0, HT1⟩, Ho, H0, H1, H2, H3, ⟨%d4, H4⟩⟩
  by_cases hu : used a t
  · obtain ⟨e0, e1⟩ := good_at a m c g0 g1 t (by omega) hu hg
    subst e0; subst e1
    obtain ⟨h0, h1, h5, h6⟩ := conds_used _ _ hu
    rw [show outAt a m c t = acc a m c (t.val + 1) from if_pos hu, acc_next a m c t (by omega)]
    iapply (run_last c (crd a t) (ms0 a t) (hs0 a t) (ms1 a t) (hs1 a t) (ms2 a t) (hs2 a t) (ms3 a t) (hs3 a t) (ms4 a t) (hs4 a t) (a.1 1) (b0 a m c t) (b1 a m c t) (b2 a m c t) (b3 a m c t) _ _ (fun e => hf0 (h0.mp e)) h1 (fun e => hf0 ((c3_iff (crd a t 1)).mp e)) ((c4_iff (crd a t 1)).mpr hf0) (h5.mpr hf1) h6 _)
    isplitl [H0]; · iexact H0
    isplitl [H1]; · iexact H1
    isplitl [H2]; · iexact H2
    isplitl [H3]; · iexact H3
    isplitl [HT1]; · iexact HT1
    isplitl [H4]; · iexists d4; iexact H4
    isplitl [HS0]; · iexact HS0
    isplitl [HS1]; · iexact HS1
    iintro ⟨H0, H1, H2, H3, HT1, H4, HS0, HS1⟩
    isplitl [HS0 HS1 HT0 HT1]
    · isplitl [HS0 HS1]
      · iexists _, _; isplitr; swap
        · isplitl [HS0]
          · iexact HS0
          · iexact HS1
        · ipureintro; rw [hw, ← acc_next a m c t (by omega)]; exact good_succ a m c t
      isplitl [HT0]
      · iexact HT0
      iexact HT1
    isplitl [Ho]; · iexact Ho
    isplitl [H0]; · iexact H0
    isplitl [H1]; · iexact H1
    isplitl [H2]; · iexact H2
    isplitl [H3]; · iexact H3
    iexact H4
  · obtain ⟨h0, h1, h5, h6⟩ := conds_not _ _ hu
    rw [show outAt a m c t = k0_pay5 from if_neg hu]
    iapply (run_zero c (crd a t) (ms0 a t) (hs0 a t) (ms1 a t) (hs1 a t) (ms2 a t) (hs2 a t) (ms3 a t) (hs3 a t) (ms4 a t) (hs4 a t) (a.1 1) (b0 a m c t) (b1 a m c t) (b2 a m c t) (b3 a m c t) g0 g1 h0 h1 h5 (h6.mpr hf1) _)
    isplitl [H0]; · iexact H0
    isplitl [H1]; · iexact H1
    isplitl [H2]; · iexact H2
    isplitl [H3]; · iexact H3
    isplitl [HT1]; · iexact HT1
    isplitl [H4]; · iexists d4; iexact H4
    isplitl [HS0]; · iexact HS0
    isplitl [HS1]; · iexact HS1
    iintro ⟨H0, H1, H2, H3, HT1, H4, HS0, HS1⟩
    isplitl [HS0 HS1 HT0 HT1]
    · isplitl [HS0 HS1]
      · iexists _, _; isplitr; swap
        · isplitl [HS0]
          · iexact HS0
          · iexact HS1
        · ipureintro; exact good_not a m c _ _ t hu
      isplitl [HT0]
      · iexact HT0
      iexact HT1
    isplitl [Ho]; · iexact Ho
    isplitl [H0]; · iexact H0
    isplitl [H1]; · iexact H1
    isplitl [H2]; · iexact H2
    isplitl [H3]; · iexact H3
    iexact H4

set_option maxHeartbeats 4000000 in
/-- The body at any other hidden tile: the output block left alone. -/
theorem body_other (c : Dev nD) (t : Fin (cfgA a).N) (hf : ¬ t.val % 7 = 6) :
    pre a m c t ⊢ wp frame (wpE (defs₀ (F := F)) Variants.none c none) Set.univ (bodyAt a t) fun _ =>
      post a m c t iprop(∃ d, owns (c : Thread nD τ) (ms4 a t) fullShare d) := by
  have hc : (crd a t 1).val = t.val % 7 := (crd_val t).2
  have hw : t.succ.val = t.val + 1 := rfl
  unfold pre post Phi
  iintro ⟨⟨⟨%g0, %g1, %hg, HS0, HS1⟩, HT0, HT1⟩, Ho, H0, H1, H2, H3, ⟨%d4, H4⟩⟩
  by_cases hu : used a t
  · obtain ⟨h0, h1, h5, h6⟩ := conds_used _ _ hu
    by_cases hz : t.val % 7 = 0
    · have hz' : (crd a t 1).val = 0 := hc.trans hz
      iapply (run_first c (crd a t) (ms0 a t) (hs0 a t) (ms1 a t) (hs1 a t) (ms2 a t) (hs2 a t) (ms3 a t) (hs3 a t) (ms4 a t) (hs4 a t) (a.1 1) (b0 a m c t) (b1 a m c t) (b2 a m c t) (b3 a m c t) g0 g1 d4 (h0.mpr hz') h1 ((c3_iff (crd a t 1)).mpr hz') (fun e => (c4_iff (crd a t 1)).mp e hz') (fun e => hf (hc.symm.trans (h5.mp e))) h6 _)
      isplitl [H0]; · iexact H0
      isplitl [H1]; · iexact H1
      isplitl [H2]; · iexact H2
      isplitl [H3]; · iexact H3
      isplitl [HT1]; · iexact HT1
      isplitl [H4]; · iexact H4
      isplitl [HS0]; · iexact HS0
      isplitl [HS1]; · iexact HS1
      iintro ⟨H0, H1, H2, H3, HT1, H4, HS0, HS1⟩
      isplitl [HS0 HS1 HT0 HT1]
      · isplitl [HS0 HS1]
        · iexists _, _; isplitr; swap
          · isplitl [HS0]
            · iexact HS0
            · iexact HS1
          · ipureintro; rw [hw, ← acc_first a m c t hz]; exact good_succ a m c t
        isplitl [HT0]
        · iexact HT0
        iexact HT1
      isplitl [Ho]; · iexact Ho
      isplitl [H0]; · iexact H0
      isplitl [H1]; · iexact H1
      isplitl [H2]; · iexact H2
      isplitl [H3]; · iexact H3
      iexists d4; iexact H4
    · obtain ⟨e0, e1⟩ := good_at a m c g0 g1 t hz hu hg
      subst e0; subst e1
      have hz' : ¬ (crd a t 1).val = 0 := fun e => hz (hc.symm.trans e)
      iapply (run_mid c (crd a t) (ms0 a t) (hs0 a t) (ms1 a t) (hs1 a t) (ms2 a t) (hs2 a t) (ms3 a t) (hs3 a t) (ms4 a t) (hs4 a t) (a.1 1) (b0 a m c t) (b1 a m c t) (b2 a m c t) (b3 a m c t) _ _ d4 (fun e => hz' (h0.mp e)) h1 (fun e => hz' ((c3_iff (crd a t 1)).mp e)) ((c4_iff (crd a t 1)).mpr hz') (fun e => hf (hc.symm.trans (h5.mp e))) h6 _)
      isplitl [H0]; · iexact H0
      isplitl [H1]; · iexact H1
      isplitl [H2]; · iexact H2
      isplitl [H3]; · iexact H3
      isplitl [HT1]; · iexact HT1
      isplitl [H4]; · iexact H4
      isplitl [HS0]; · iexact HS0
      isplitl [HS1]; · iexact HS1
      iintro ⟨H0, H1, H2, H3, HT1, H4, HS0, HS1⟩
      isplitl [HS0 HS1 HT0 HT1]
      · isplitl [HS0 HS1]
        · iexists _, _; isplitr; swap
          · isplitl [HS0]
            · iexact HS0
            · iexact HS1
          · ipureintro; rw [hw, ← acc_next a m c t hz]; exact good_succ a m c t
        isplitl [HT0]
        · iexact HT0
        iexact HT1
      isplitl [Ho]; · iexact Ho
      isplitl [H0]; · iexact H0
      isplitl [H1]; · iexact H1
      isplitl [H2]; · iexact H2
      isplitl [H3]; · iexact H3
      iexists d4; iexact H4
  · obtain ⟨h0, h1, h5, h6⟩ := conds_not _ _ hu
    iapply (run_skip c (crd a t) (ms0 a t) (hs0 a t) (ms1 a t) (hs1 a t) (ms2 a t) (hs2 a t) (ms3 a t) (hs3 a t) (ms4 a t) (hs4 a t) (a.1 1) (b0 a m c t) (b1 a m c t) (b2 a m c t) (b3 a m c t) g0 g1 d4 h0 h1 h5 (fun e => hf (hc.symm.trans (h6.mp e))) _)
    isplitl [H0]; · iexact H0
    isplitl [H1]; · iexact H1
    isplitl [H2]; · iexact H2
    isplitl [H3]; · iexact H3
    isplitl [HT1]; · iexact HT1
    isplitl [H4]; · iexact H4
    isplitl [HS0]; · iexact HS0
    isplitl [HS1]; · iexact HS1
    iintro ⟨H0, H1, H2, H3, HT1, H4, HS0, HS1⟩
    isplitl [HS0 HS1 HT0 HT1]
    · isplitl [HS0 HS1]
      · iexists _, _; isplitr; swap
        · isplitl [HS0]
          · iexact HS0
          · iexact HS1
        · ipureintro; exact good_not a m c _ _ t hu
      isplitl [HT0]
      · iexact HT0
      iexact HT1
    isplitl [Ho]; · iexact Ho
    isplitl [H0]; · iexact H0
    isplitl [H1]; · iexact H1
    isplitl [H2]; · iexact H2
    isplitl [H3]; · iexact H3
    iexists d4; iexact H4

/-- The body at any point. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 5) t d))
        ∗ (∃ d, owns (c : Thread nD τ) (ms1 a t) fullShare ((dats a m 0 c).before (1 : Fin 5) t d))
        ∗ (∃ d, owns (c : Thread nD τ) (ms2 a t) fullShare ((dats a m 0 c).before (2 : Fin 5) t d))
        ∗ (∃ d, owns (c : Thread nD τ) (ms3 a t) fullShare ((dats a m 0 c).before (3 : Fin 5) t d))
        ∗ (∃ d, owns (c : Thread nD τ) (ms4 a t) fullShare ((dats a m 0 c).before (4 : Fin 5) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle4, flush4]
  simp only [before_0, before_1, before_2, before_3, before_4, after_0, after_1, after_2, after_3, after_4]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  have hpre : iprop(Phi a m c t.castSucc ∗ (dats a m 0 c).owesAt () t.castSucc
      ∗ (∃ d : Vec F S1024x1024 .f32, owns (c : Thread nD τ) (ms0 a t) fullShare (b0 a m c t)) ∗ (∃ d : Vec F S1x1024x512 .bf16, owns (c : Thread nD τ) (ms1 a t) fullShare (b1 a m c t))
      ∗ (∃ d : Vec F S1x1024x512 .bf16, owns (c : Thread nD τ) (ms2 a t) fullShare (b2 a m c t)) ∗ (∃ d : Vec F S1x512x1024 .bf16, owns (c : Thread nD τ) (ms3 a t) fullShare (b3 a m c t))
      ∗ (∃ d, owns (c : Thread nD τ) (ms4 a t) fullShare d)) ⊢ pre a m c t := by
    unfold pre
    iintro ⟨HP, Ho, ⟨%d0, H0⟩, ⟨%d1, H1⟩, ⟨%d2, H2⟩, ⟨%d3, H3⟩, H4⟩
    isplitl [HP]; · iexact HP
    isplitl [Ho]; · iexact Ho
    isplitl [H0]; · iexact H0
    isplitl [H1]; · iexact H1
    isplitl [H2]; · iexact H2
    isplitl [H3]; · iexact H3
    iexact H4
  refine hpre.trans ?_
  by_cases hf : t.val % 7 = 6
  · rw [show decide (t.val % 7 = 6) = true from decide_eq_true hf]
    exact body_last a m c t hf
  · rw [show decide (t.val % 7 = 6) = false from decide_eq_false hf]
    exact body_other a m c t hf

/-- The library's body obligation, at every point. -/
theorem body_obligation (c : Dev nD) : BodyObligation (dats a m 0 c) (defs₀ (F := F)) Variants.none () Set.univ := fun t => by
  rw [bigSep_W0]
  exact sound_body a m c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi owns
  iintro ⟨-, ⟨HT0, HT1⟩, ⟨%g0, HS0⟩, ⟨%g1, HS1⟩⟩
  isplitl [HS0 HS1]
  · iexists (sc0.view.read (Elt F) g0), (sc1.view.read (Elt F) g1)
    isplitr
    · ipureintro; exact trivial
    isplitl [HS0]
    · iexists g0; isplitr
      · ipureintro; rfl
      · rw [show sc0.view.set = Finset.univ from View.set_whole _]; iexact HS0
    · iexists g1; isplitr
      · ipureintro; rfl
      · rw [show sc1.view.set = Finset.univ from View.set_whole _]; iexact HS1
  isplitl [HT0]
  · iexact HT0
  iexact HT1

theorem phiN_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi owns
  rw [show sc0.view.set = Finset.univ from View.set_whole _, show sc1.view.set = Finset.univ from View.set_whole _]
  iintro ⟨⟨%g0, %g1, -, ⟨%f0, -, HS0⟩, ⟨%f1, -, HS1⟩⟩, -, -⟩
  isplitr; · iempintro
  isplitl [HS0]
  · iexists f0; iexact HS0
  iexists f1; iexact HS1

/-- Every array at what the library computes, every table as launched. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
theorem run_quiescent (hp : ∀ (c : Dev nD) (j : Fin 2), m ((c : Thread nD τ).loc (pre0.ref j)) = a.1 j) :
    θ_run (defs (F := F)) (onTc (τ := τ) (main (F := F))) ⟨m, fun _ => 0, ρ⟩ (fun r => QC a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre cells₁ defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m)
    (hout := phiN_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-! ## From the launch memory -/

/-- The tables of the launch memory. -/
def tabs : pre0.Contents (Elt F) := fun j => m (((0 : Dev nD) : Thread nD τ).loc (pre0.ref j))

theorem tabs_eq (c : Dev nD) (j : Fin 2) : m ((c : Thread nD τ).loc (pre0.ref j)) = tabs m j := by
  obtain rfl : c = 0 := Subsingleton.elim _ _
  rfl

/-- The pipeline's tables, when every entry of the first names an expert. -/
def adm (h : ∀ y : S72.Idx, (show BitVec 32 from m (((0 : Dev nD) : Thread nD τ).loc main_arg1) y).toNat < 8) : (pcfg0 (F := F)).Adm := ⟨tabs m, ok_of (tabs m) h⟩

/-- The whole run: the result array at what the pipeline's data say, the arguments unchanged. -/
theorem run_main (h : ∀ y : S72.Idx, (show BitVec 32 from m (((0 : Dev nD) : Thread nD τ).loc main_arg1) y).toNat < 8) :
    θ_run (defs (F := F)) (onTc (τ := τ) (main (F := F))) ⟨m, fun _ => 0, ρ⟩ (fun r => (∀ c : Dev nD,
      r.2.mem ((c.tc : Thread nD τ).loc main_v0) = (dats (adm m h) m 0 c).arrAt (4 : Fin 5) (cfgA (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ hr => ⟨fun c => ⟨(hr.1 c).1 (4 : Fin 5), ((hr.1 c).1 (0 : Fin 5)).trans ((dats (adm m h) m 0 c).arrAt_in (0 : Fin 5) rfl _),
      ((hr.1 c).2 0).trans (tabs_eq m c 0).symm, ((hr.1 c).2 1).trans (tabs_eq m c 1).symm,
      ((hr.1 c).1 (1 : Fin 5)).trans ((dats (adm m h) m 0 c).arrAt_in (1 : Fin 5) rfl _), ((hr.1 c).1 (2 : Fin 5)).trans ((dats (adm m h) m 0 c).arrAt_in (2 : Fin 5) rfl _),
      ((hr.1 c).1 (3 : Fin 5)).trans ((dats (adm m h) m 0 c).arrAt_in (3 : Fin 5) rfl _)⟩, hr.2⟩)
    (run_quiescent (adm m h) m ρ (tabs_eq m))

end Cert.ExpertIdeal.Hand

end
-- ==== Proof.ExpertTile.lean ====
/-
  The reference of the expert feed-forward, read at coordinates: each expert's result is a plain sum over the hidden
  columns, and a row of a tile in use keeps the sum of the expert its tile names.
-/
module

public import proofs.«01_k».proof.Proof.Gen.ExpertRefIdeal.Read
public import Idealize.ShloMosaic.Lib.Pipeline.ValueKit

@[expose] public section

set_option maxRecDepth 16384
set_option Elab.async false

noncomputable section

open Idealize.ShloMosaic Idealize.ShloMosaic.TcCoe

namespace Cert.ExpertRefIdeal.Sums

open Cert.ExpertRefIdeal Cert.ExpertRefIdeal.Read

/-- Row and column of the sorted activations. -/
abbrev at2 (r : Fin 73728) (j : Fin 1024) : S73728x1024.Idx := fun a => match a with
  | ⟨0, _⟩ => ⟨r.val, r.isLt⟩
  | ⟨1, _⟩ => ⟨j.val, j.isLt⟩
/-- Expert, row and column of the two input matrices. -/
abbrev up3 (e : Fin 8) (k : Fin 1024) (h : Fin 3584) : S8x1024x3584.Idx := fun a => match a with
  | ⟨0, _⟩ => ⟨e.val, e.isLt⟩
  | ⟨1, _⟩ => ⟨k.val, k.isLt⟩
  | ⟨2, _⟩ => ⟨h.val, h.isLt⟩
/-- Expert, row and column of the output matrix. -/
abbrev down3 (e : Fin 8) (h : Fin 3584) (j : Fin 1024) : S8x3584x1024.Idx := fun a => match a with
  | ⟨0, _⟩ => ⟨e.val, e.isLt⟩
  | ⟨1, _⟩ => ⟨h.val, h.isLt⟩
  | ⟨2, _⟩ => ⟨j.val, j.isLt⟩
/-- A tile's place in the table of experts. -/
abbrev tileAt (q : Fin 72) : S72.Idx := fun a => match a with
  | ⟨0, _⟩ => ⟨q.val, q.isLt⟩
abbrev one1 : S1.Idx := fun a => match a with
  | ⟨0, _⟩ => ⟨0, Nat.one_pos⟩

variable (x0 : FVec Ideal S73728x1024 .f32) (x1 : (⟨S72, .i32⟩ : BufTy).Contents (Elt Ideal)) (x2 : (⟨S1, .i32⟩ : BufTy).Contents (Elt Ideal))
  (x3 x4 : FVec Ideal S8x1024x3584 .bf16) (x5 : FVec Ideal S8x3584x1024 .bf16)

/-- A row times a column of one expert's input matrix. -/
def proj (w : FVec Ideal S8x1024x3584 .bf16) (e : Fin 8) (r : Fin 73728) (h : Fin 3584) : EReal :=
  ∑ k : Fin 1024, (x0 (at2 r k) : EReal) * (w (up3 e k h) : EReal)

/-- One hidden column's share of one expert's result. -/
def term (e : Fin 8) (r : Fin 73728) (j : Fin 1024) (h : Fin 3584) : EReal :=
  proj x0 x3 e r h * Ideal.logistic (proj x0 x3 e r h) * proj x0 x4 e r h * (x5 (down3 e h j) : EReal)

/-- One expert's result. -/
def mlp (e : Fin 8) (r : Fin 73728) (j : Fin 1024) : EReal := ∑ h : Fin 3584, term x0 x3 x4 x5 e r j h

/-! ## The row's tile, and whether it is in use -/

theorem quotient (n : ℕ) (hn : n < 73728) :
    Scalar.select (IntOp.andi (IntOp.cmpi .ne (if BitVec.ofNat 32 n = 0 then (0 : BitVec 32) else if (BitVec.ofNat 32 n).msb then -1 else 1) 1#32)
        (IntOp.cmpi .ne ((BitVec.ofNat 32 n).srem 1024#32) 0#32))
      (IntOp.subi ((BitVec.ofNat 32 n).sdiv 1024#32) 1#32)
      ((BitVec.ofNat 32 n).sdiv 1024#32) = BitVec.ofNat 32 (n / 1024) := by
  have hN : (BitVec.ofNat 32 n).toNat = n := by rw [BitVec.toNat_ofNat]; exact Nat.mod_eq_of_lt (by omega)
  have hm : (BitVec.ofNat 32 n).msb = false := by
    rw [BitVec.msb_eq_decide, hN]; exact decide_eq_false (by omega)
  have hk : (1024#32 : BitVec 32).msb = false := by decide
  have hd : (BitVec.ofNat 32 n).sdiv 1024#32 = BitVec.ofNat 32 (n / 1024) := by
    rw [BitVec.sdiv_eq, hm, hk]
    refine BitVec.eq_of_toNat_eq ?_
    show ((BitVec.ofNat 32 n).udiv 1024#32).toNat = _
    rw [BitVec.udiv_eq, BitVec.toNat_udiv, hN, BitVec.toNat_ofNat, BitVec.toNat_ofNat, Nat.mod_eq_of_lt (show n / 1024 < 2 ^ 32 by omega)]
  rw [hd]
  refine if_neg fun h => ?_
  obtain ⟨h1, h2⟩ := IntOp.andi_eq_one.mp h
  by_cases hz : BitVec.ofNat 32 n = 0
  · rw [hz] at h2
    exact absurd h2 (by decide)
  · rw [if_neg hz, hm] at h1
    exact absurd h1 (by decide)

theorem no_corner (x : BitVec 32) : ¬ IntOp.SDivCorner x 1024#32 := by
  rintro (h | ⟨-, h⟩) <;> exact absurd h (by decide)

theorem sign_eq (i : S73728.Idx) : val_main_call0_v3 (F := Ideal) i = if BitVec.ofNat 32 (i 0).val = 0 then (0 : BitVec 32) else if (BitVec.ofNat 32 (i 0).val).msb then -1 else 1 := rfl

theorem sign_one (i : S_.Idx) : val_main_call0_v4 (F := Ideal) i = 1#32 := by
  show (if (1024#32 : BitVec 32) = 0 then (0 : BitVec 32) else if (1024#32 : BitVec 32).msb then -1 else 1) = 1#32
  decide

theorem tile_eq (i : S73728.Idx) : val_main_v1 (F := Ideal) i = BitVec.ofNat 32 ((i 0).val / 1024) := by
  have h0 : (i 0).val < 73728 := (i 0).isLt
  have hq := quotient (i 0).val h0
  refine Eq.trans ?_ hq
  rw [val_main_v1_apply, val_main_call0_v11_apply, val_main_call0_v13_apply, val_main_call0_v6_apply, val_main_call0_v10_apply, val_main_call0_v2_apply,
    val_main_call0_v8_apply, val_main_call0_v1_apply, val_main_call0_v5_apply, val_main_call0_v7_apply, val_main_call0_v9_apply, val_main_call0_v12_apply]
  show Scalar.select (IntOp.andi _ (IntOp.cmpi .ne (IntOp.remsi .host (BitVec.ofNat 32 (i 0).val) 1024#32) 0#32)) (IntOp.subi (IntOp.divsi .host (BitVec.ofNat 32 (i 0).val) 1024#32) 1#32)
    (IntOp.divsi .host (BitVec.ofNat 32 (i 0).val) 1024#32) = _
  unfold IntOp.remsi IntOp.divsi
  rw [if_neg (no_corner _), if_neg (no_corner _), sign_eq, sign_one]

/-- Whether a tile is in use. -/
abbrev live (q : Fin 72) : BitVec 1 := IntOp.cmpi .slt (BitVec.ofNat 32 q.val) (show BitVec 32 from x2 one1)

theorem used_eq (i : S73728.Idx) : val_main_v6 (F := Ideal) x2 i = live x2 ⟨(i 0).val / 1024, by have h0 : (i 0).val < 73728 := (i 0).isLt; omega⟩ := by
  rw [val_main_v6_apply, tile_eq, val_main_v5_apply]
  unfold val_main_v4
  rw [shapeCast_apply x2 Gen.shapeCasts_S1_S_ _ one1 rfl]

theorem expert_eq (i : S73728.Idx) : val_main_v3 (F := Ideal) x1 i = x1 (tileAt ⟨(i 0).val / 1024, by have h0 : (i 0).val < 73728 := (i 0).isLt; omega⟩) := by
  rw [val_main_v3_apply, val_main_v2_apply]
  exact congrArg x1 (funext fun a => match a with | ⟨0, _⟩ => rfl)

/-- The row of a result's index. -/
abbrev rowOf (i : S73728x1024.Idx) : Fin 73728 := ⟨(i 0).val, (i 0).isLt⟩
abbrev colOf (i : S73728x1024.Idx) : Fin 1024 := ⟨(i 1).val, (i 1).isLt⟩
abbrev tileOf (i : S73728x1024.Idx) : Fin 72 := ⟨(i 0).val / 1024, by have h0 : (i 0).val < 73728 := (i 0).isLt; omega⟩

end Cert.ExpertRefIdeal.Sums

end
-- ==== Proof.ExpertSums0.lean ====
/-
  Two of the eight experts of the reference, read at coordinates.
-/
module

public import proofs.«01_k».proof.Proof.ExpertTile
public import proofs.«01_k».proof.Proof.Gen.ExpertRefIdeal.Read
public import Idealize.ShloMosaic.Lib.Pipeline.ValueKit

@[expose] public section

set_option maxRecDepth 16384
set_option Elab.async false

noncomputable section

open Idealize.ShloMosaic Idealize.ShloMosaic.TcCoe

namespace Cert.ExpertRefIdeal.Sums

open Cert.ExpertRefIdeal Cert.ExpertRefIdeal.Read

variable (x0 : FVec Ideal S73728x1024 .f32) (x1 : (⟨S72, .i32⟩ : BufTy).Contents (Elt Ideal)) (x2 : (⟨S1, .i32⟩ : BufTy).Contents (Elt Ideal))
  (x3 x4 : FVec Ideal S8x1024x3584 .bf16) (x5 : FVec Ideal S8x3584x1024 .bf16)

theorem up_0 (w : FVec Ideal S8x1024x3584 .bf16) (i : S73728x3584.Idx) : val_main_v17 (F := Ideal) x0 w i = proj x0 w 0 ⟨(i 0).val, (i 0).isLt⟩ ⟨(i 1).val, (i 1).isLt⟩ := by
  have hk : (i 1).val < 3584 := (i 1).isLt
  rw [val_main_v17_apply]
  unfold proj
  refine Finset.sum_congr rfl fun k _ => congrArg₂ (· * · : EReal → EReal → EReal) (congrArg x0 (funext fun a => match a with | ⟨0, _⟩ => rfl | ⟨1, _⟩ => rfl)) ?_
  rw [val_main_v10_apply, val_main_v9_apply, val_main_v8_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_0' (w : FVec Ideal S8x1024x3584 .bf16) (i : S73728x3584.Idx) : val_main_v19 (F := Ideal) x0 w i = proj x0 w 0 ⟨(i 0).val, (i 0).isLt⟩ ⟨(i 1).val, (i 1).isLt⟩ :=
  Eq.trans rfl (up_0 x0 w i)

theorem gate_0 (i : S73728x3584.Idx) : val_main_v18 (F := Ideal) x0 x3 i = val_main_v17 (F := Ideal) x0 x3 i * Ideal.logistic (val_main_v17 (F := Ideal) x0 x3 i) := by
  pointwise [val_main_v18, val_main_call1_v5, val_main_call1_v4, val_main_call1_v3, val_main_call1_v2, val_main_call1_v1, val_main_call1_v0, val_main_call1_cst, val_main_call1_cst_0]
  rfl

theorem mlp_0 (i : S73728x1024.Idx) : val_main_v21 (F := Ideal) x0 x3 x4 x5 i = mlp x0 x3 x4 x5 0 (rowOf i) (colOf i) := by
  have hk : (i 1).val < 1024 := (i 1).isLt
  rw [val_main_v21_apply]
  unfold mlp term
  refine Finset.sum_congr rfl fun h _ => congrArg₂ (· * · : EReal → EReal → EReal) ?_ ?_
  · refine congrArg₂ (· * · : EReal → EReal → EReal) ?_ ?_
    · rw [gate_0, up_0]
    · exact up_0' x0 x4 _
  · rw [val_main_v16_apply, val_main_v15_apply, val_main_v14_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_0 (i : S73728x1024.Idx) : val_main_v26 (F := Ideal) x0 x1 x2 x3 x4 x5 i
    = Scalar.select (IntOp.andi (live x2 (tileOf i)) (IntOp.cmpi .eq (show BitVec 32 from x1 (tileAt (tileOf i))) 0#32)) (mlp x0 x3 x4 x5 0 (rowOf i) (colOf i)) (0 : EReal) := by
  rw [val_main_v26_apply, val_main_call2_v1_apply, val_main_v25_apply, val_main_v24_apply, val_main_v23_apply, used_eq, expert_eq, mlp_0, val_main_call2_v2_apply, val_main_v22_apply, val_main_call2_v0_apply, val_main_cst_1_apply, val_main_c_0_apply]
  exact congrArg (Scalar.select _ _) (Ideal.ofBits_zero .f32)

theorem up_1 (w : FVec Ideal S8x1024x3584 .bf16) (i : S73728x3584.Idx) : val_main_v37 (F := Ideal) x0 w i = proj x0 w 1 ⟨(i 0).val, (i 0).isLt⟩ ⟨(i 1).val, (i 1).isLt⟩ := by
  have hk : (i 1).val < 3584 := (i 1).isLt
  rw [val_main_v37_apply]
  unfold proj
  refine Finset.sum_congr rfl fun k _ => congrArg₂ (· * · : EReal → EReal → EReal) (congrArg x0 (funext fun a => match a with | ⟨0, _⟩ => rfl | ⟨1, _⟩ => rfl)) ?_
  rw [val_main_v30_apply, val_main_v29_apply, val_main_v28_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_1' (w : FVec Ideal S8x1024x3584 .bf16) (i : S73728x3584.Idx) : val_main_v39 (F := Ideal) x0 w i = proj x0 w 1 ⟨(i 0).val, (i 0).isLt⟩ ⟨(i 1).val, (i 1).isLt⟩ :=
  Eq.trans rfl (up_1 x0 w i)

theorem gate_1 (i : S73728x3584.Idx) : val_main_v38 (F := Ideal) x0 x3 i = val_main_v37 (F := Ideal) x0 x3 i * Ideal.logistic (val_main_v37 (F := Ideal) x0 x3 i) := by
  pointwise [val_main_v38, val_main_call3_v5, val_main_call3_v4, val_main_call3_v3, val_main_call3_v2, val_main_call3_v1, val_main_call3_v0, val_main_call3_cst, val_main_call3_cst_0]
  rfl

theorem mlp_1 (i : S73728x1024.Idx) : val_main_v41 (F := Ideal) x0 x3 x4 x5 i = mlp x0 x3 x4 x5 1 (rowOf i) (colOf i) := by
  have hk : (i 1).val < 1024 := (i 1).isLt
  rw [val_main_v41_apply]
  unfold mlp term
  refine Finset.sum_congr rfl fun h _ => congrArg₂ (· * · : EReal → EReal → EReal) ?_ ?_
  · refine congrArg₂ (· * · : EReal → EReal → EReal) ?_ ?_
    · rw [gate_1, up_1]
    · exact up_1' x0 x4 _
  · rw [val_main_v36_apply, val_main_v35_apply, val_main_v34_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_1 (i : S73728x1024.Idx) : val_main_v46 (F := Ideal) x0 x1 x2 x3 x4 x5 i
    = Scalar.select (IntOp.andi (live x2 (tileOf i)) (IntOp.cmpi .eq (show BitVec 32 from x1 (tileAt (tileOf i))) 1#32)) (mlp x0 x3 x4 x5 1 (rowOf i) (colOf i)) (0 : EReal) := by
  rw [val_main_v46_apply, val_main_call4_v1_apply, val_main_v45_apply, val_main_v44_apply, val_main_v43_apply, used_eq, expert_eq, mlp_1, val_main_call4_v2_apply, val_main_v42_apply, val_main_call4_v0_apply, val_main_cst_3_apply, val_main_c_2_apply]
  exact congrArg (Scalar.select _ _) (Ideal.ofBits_zero .f32)

end Cert.ExpertRefIdeal.Sums

end
-- ==== Proof.ExpertSums1.lean ====
/-
  Two of the eight experts of the reference, read at coordinates.
-/
module

public import proofs.«01_k».proof.Proof.ExpertTile
public import proofs.«01_k».proof.Proof.Gen.ExpertRefIdeal.Read
public import Idealize.ShloMosaic.Lib.Pipeline.ValueKit

@[expose] public section

set_option maxRecDepth 16384
set_option Elab.async false

noncomputable section

open Idealize.ShloMosaic Idealize.ShloMosaic.TcCoe

namespace Cert.ExpertRefIdeal.Sums

open Cert.ExpertRefIdeal Cert.ExpertRefIdeal.Read

variable (x0 : FVec Ideal S73728x1024 .f32) (x1 : (⟨S72, .i32⟩ : BufTy).Contents (Elt Ideal)) (x2 : (⟨S1, .i32⟩ : BufTy).Contents (Elt Ideal))
  (x3 x4 : FVec Ideal S8x1024x3584 .bf16) (x5 : FVec Ideal S8x3584x1024 .bf16)

theorem up_2 (w : FVec Ideal S8x1024x3584 .bf16) (i : S73728x3584.Idx) : val_main_v57 (F := Ideal) x0 w i = proj x0 w 2 ⟨(i 0).val, (i 0).isLt⟩ ⟨(i 1).val, (i 1).isLt⟩ := by
  have hk : (i 1).val < 3584 := (i 1).isLt
  rw [val_main_v57_apply]
  unfold proj
  refine Finset.sum_congr rfl fun k _ => congrArg₂ (· * · : EReal → EReal → EReal) (congrArg x0 (funext fun a => match a with | ⟨0, _⟩ => rfl | ⟨1, _⟩ => rfl)) ?_
  rw [val_main_v50_apply, val_main_v49_apply, val_main_v48_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_2' (w : FVec Ideal S8x1024x3584 .bf16) (i : S73728x3584.Idx) : val_main_v59 (F := Ideal) x0 w i = proj x0 w 2 ⟨(i 0).val, (i 0).isLt⟩ ⟨(i 1).val, (i 1).isLt⟩ :=
  Eq.trans rfl (up_2 x0 w i)

theorem gate_2 (i : S73728x3584.Idx) : val_main_v58 (F := Ideal) x0 x3 i = val_main_v57 (F := Ideal) x0 x3 i * Ideal.logistic (val_main_v57 (F := Ideal) x0 x3 i) := by
  pointwise [val_main_v58, val_main_call5_v5, val_main_call5_v4, val_main_call5_v3, val_main_call5_v2, val_main_call5_v1, val_main_call5_v0, val_main_call5_cst, val_main_call5_cst_0]
  rfl

theorem mlp_2 (i : S73728x1024.Idx) : val_main_v61 (F := Ideal) x0 x3 x4 x5 i = mlp x0 x3 x4 x5 2 (rowOf i) (colOf i) := by
  have hk : (i 1).val < 1024 := (i 1).isLt
  rw [val_main_v61_apply]
  unfold mlp term
  refine Finset.sum_congr rfl fun h _ => congrArg₂ (· * · : EReal → EReal → EReal) ?_ ?_
  · refine congrArg₂ (· * · : EReal → EReal → EReal) ?_ ?_
    · rw [gate_2, up_2]
    · exact up_2' x0 x4 _
  · rw [val_main_v56_apply, val_main_v55_apply, val_main_v54_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_2 (i : S73728x1024.Idx) : val_main_v66 (F := Ideal) x0 x1 x2 x3 x4 x5 i
    = Scalar.select (IntOp.andi (live x2 (tileOf i)) (IntOp.cmpi .eq (show BitVec 32 from x1 (tileAt (tileOf i))) 2#32)) (mlp x0 x3 x4 x5 2 (rowOf i) (colOf i)) (0 : EReal) := by
  rw [val_main_v66_apply, val_main_call6_v1_apply, val_main_v65_apply, val_main_v64_apply, val_main_v63_apply, used_eq, expert_eq, mlp_2, val_main_call6_v2_apply, val_main_v62_apply, val_main_call6_v0_apply, val_main_cst_5_apply, val_main_c_4_apply]
  exact congrArg (Scalar.select _ _) (Ideal.ofBits_zero .f32)

theorem up_3 (w : FVec Ideal S8x1024x3584 .bf16) (i : S73728x3584.Idx) : val_main_v77 (F := Ideal) x0 w i = proj x0 w 3 ⟨(i 0).val, (i 0).isLt⟩ ⟨(i 1).val, (i 1).isLt⟩ := by
  have hk : (i 1).val < 3584 := (i 1).isLt
  rw [val_main_v77_apply]
  unfold proj
  refine Finset.sum_congr rfl fun k _ => congrArg₂ (· * · : EReal → EReal → EReal) (congrArg x0 (funext fun a => match a with | ⟨0, _⟩ => rfl | ⟨1, _⟩ => rfl)) ?_
  rw [val_main_v70_apply, val_main_v69_apply, val_main_v68_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_3' (w : FVec Ideal S8x1024x3584 .bf16) (i : S73728x3584.Idx) : val_main_v79 (F := Ideal) x0 w i = proj x0 w 3 ⟨(i 0).val, (i 0).isLt⟩ ⟨(i 1).val, (i 1).isLt⟩ :=
  Eq.trans rfl (up_3 x0 w i)

theorem gate_3 (i : S73728x3584.Idx) : val_main_v78 (F := Ideal) x0 x3 i = val_main_v77 (F := Ideal) x0 x3 i * Ideal.logistic (val_main_v77 (F := Ideal) x0 x3 i) := by
  pointwise [val_main_v78, val_main_call7_v5, val_main_call7_v4, val_main_call7_v3, val_main_call7_v2, val_main_call7_v1, val_main_call7_v0, val_main_call7_cst, val_main_call7_cst_0]
  rfl

theorem mlp_3 (i : S73728x1024.Idx) : val_main_v81 (F := Ideal) x0 x3 x4 x5 i = mlp x0 x3 x4 x5 3 (rowOf i) (colOf i) := by
  have hk : (i 1).val < 1024 := (i 1).isLt
  rw [val_main_v81_apply]
  unfold mlp term
  refine Finset.sum_congr rfl fun h _ => congrArg₂ (· * · : EReal → EReal → EReal) ?_ ?_
  · refine congrArg₂ (· * · : EReal → EReal → EReal) ?_ ?_
    · rw [gate_3, up_3]
    · exact up_3' x0 x4 _
  · rw [val_main_v76_apply, val_main_v75_apply, val_main_v74_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_3 (i : S73728x1024.Idx) : val_main_v86 (F := Ideal) x0 x1 x2 x3 x4 x5 i
    = Scalar.select (IntOp.andi (live x2 (tileOf i)) (IntOp.cmpi .eq (show BitVec 32 from x1 (tileAt (tileOf i))) 3#32)) (mlp x0 x3 x4 x5 3 (rowOf i) (colOf i)) (0 : EReal) := by
  rw [val_main_v86_apply, val_main_call8_v1_apply, val_main_v85_apply, val_main_v84_apply, val_main_v83_apply, used_eq, expert_eq, mlp_3, val_main_call8_v2_apply, val_main_v82_apply, val_main_call8_v0_apply, val_main_cst_7_apply, val_main_c_6_apply]
  exact congrArg (Scalar.select _ _) (Ideal.ofBits_zero .f32)

end Cert.ExpertRefIdeal.Sums

end
-- ==== Proof.ExpertSums2.lean ====
/-
  Two of the eight experts of the reference, read at coordinates.
-/
module

public import proofs.«01_k».proof.Proof.ExpertTile
public import proofs.«01_k».proof.Proof.Gen.ExpertRefIdeal.Read
public import Idealize.ShloMosaic.Lib.Pipeline.ValueKit

@[expose] public section

set_option maxRecDepth 16384
set_option Elab.async false

noncomputable section

open Idealize.ShloMosaic Idealize.ShloMosaic.TcCoe

namespace Cert.ExpertRefIdeal.Sums

open Cert.ExpertRefIdeal Cert.ExpertRefIdeal.Read

variable (x0 : FVec Ideal S73728x1024 .f32) (x1 : (⟨S72, .i32⟩ : BufTy).Contents (Elt Ideal)) (x2 : (⟨S1, .i32⟩ : BufTy).Contents (Elt Ideal))
  (x3 x4 : FVec Ideal S8x1024x3584 .bf16) (x5 : FVec Ideal S8x3584x1024 .bf16)

theorem up_4 (w : FVec Ideal S8x1024x3584 .bf16) (i : S73728x3584.Idx) : val_main_v97 (F := Ideal) x0 w i = proj x0 w 4 ⟨(i 0).val, (i 0).isLt⟩ ⟨(i 1).val, (i 1).isLt⟩ := by
  have hk : (i 1).val < 3584 := (i 1).isLt
  rw [val_main_v97_apply]
  unfold proj
  refine Finset.sum_congr rfl fun k _ => congrArg₂ (· * · : EReal → EReal → EReal) (congrArg x0 (funext fun a => match a with | ⟨0, _⟩ => rfl | ⟨1, _⟩ => rfl)) ?_
  rw [val_main_v90_apply, val_main_v89_apply, val_main_v88_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_4' (w : FVec Ideal S8x1024x3584 .bf16) (i : S73728x3584.Idx) : val_main_v99 (F := Ideal) x0 w i = proj x0 w 4 ⟨(i 0).val, (i 0).isLt⟩ ⟨(i 1).val, (i 1).isLt⟩ :=
  Eq.trans rfl (up_4 x0 w i)

theorem gate_4 (i : S73728x3584.Idx) : val_main_v98 (F := Ideal) x0 x3 i = val_main_v97 (F := Ideal) x0 x3 i * Ideal.logistic (val_main_v97 (F := Ideal) x0 x3 i) := by
  pointwise [val_main_v98, val_main_call9_v5, val_main_call9_v4, val_main_call9_v3, val_main_call9_v2, val_main_call9_v1, val_main_call9_v0, val_main_call9_cst, val_main_call9_cst_0]
  rfl

theorem mlp_4 (i : S73728x1024.Idx) : val_main_v101 (F := Ideal) x0 x3 x4 x5 i = mlp x0 x3 x4 x5 4 (rowOf i) (colOf i) := by
  have hk : (i 1).val < 1024 := (i 1).isLt
  rw [val_main_v101_apply]
  unfold mlp term
  refine Finset.sum_congr rfl fun h _ => congrArg₂ (· * · : EReal → EReal → EReal) ?_ ?_
  · refine congrArg₂ (· * · : EReal → EReal → EReal) ?_ ?_
    · rw [gate_4, up_4]
    · exact up_4' x0 x4 _
  · rw [val_main_v96_apply, val_main_v95_apply, val_main_v94_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_4 (i : S73728x1024.Idx) : val_main_v106 (F := Ideal) x0 x1 x2 x3 x4 x5 i
    = Scalar.select (IntOp.andi (live x2 (tileOf i)) (IntOp.cmpi .eq (show BitVec 32 from x1 (tileAt (tileOf i))) 4#32)) (mlp x0 x3 x4 x5 4 (rowOf i) (colOf i)) (0 : EReal) := by
  rw [val_main_v106_apply, val_main_call10_v1_apply, val_main_v105_apply, val_main_v104_apply, val_main_v103_apply, used_eq, expert_eq, mlp_4, val_main_call10_v2_apply, val_main_v102_apply, val_main_call10_v0_apply, val_main_cst_9_apply, val_main_c_8_apply]
  exact congrArg (Scalar.select _ _) (Ideal.ofBits_zero .f32)

theorem up_5 (w : FVec Ideal S8x1024x3584 .bf16) (i : S73728x3584.Idx) : val_main_v117 (F := Ideal) x0 w i = proj x0 w 5 ⟨(i 0).val, (i 0).isLt⟩ ⟨(i 1).val, (i 1).isLt⟩ := by
  have hk : (i 1).val < 3584 := (i 1).isLt
  rw [val_main_v117_apply]
  unfold proj
  refine Finset.sum_congr rfl fun k _ => congrArg₂ (· * · : EReal → EReal → EReal) (congrArg x0 (funext fun a => match a with | ⟨0, _⟩ => rfl | ⟨1, _⟩ => rfl)) ?_
  rw [val_main_v110_apply, val_main_v109_apply, val_main_v108_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_5' (w : FVec Ideal S8x1024x3584 .bf16) (i : S73728x3584.Idx) : val_main_v119 (F := Ideal) x0 w i = proj x0 w 5 ⟨(i 0).val, (i 0).isLt⟩ ⟨(i 1).val, (i 1).isLt⟩ :=
  Eq.trans rfl (up_5 x0 w i)

theorem gate_5 (i : S73728x3584.Idx) : val_main_v118 (F := Ideal) x0 x3 i = val_main_v117 (F := Ideal) x0 x3 i * Ideal.logistic (val_main_v117 (F := Ideal) x0 x3 i) := by
  pointwise [val_main_v118, val_main_call11_v5, val_main_call11_v4, val_main_call11_v3, val_main_call11_v2, val_main_call11_v1, val_main_call11_v0, val_main_call11_cst, val_main_call11_cst_0]
  rfl

theorem mlp_5 (i : S73728x1024.Idx) : val_main_v121 (F := Ideal) x0 x3 x4 x5 i = mlp x0 x3 x4 x5 5 (rowOf i) (colOf i) := by
  have hk : (i 1).val < 1024 := (i 1).isLt
  rw [val_main_v121_apply]
  unfold mlp term
  refine Finset.sum_congr rfl fun h _ => congrArg₂ (· * · : EReal → EReal → EReal) ?_ ?_
  · refine congrArg₂ (· * · : EReal → EReal → EReal) ?_ ?_
    · rw [gate_5, up_5]
    · exact up_5' x0 x4 _
  · rw [val_main_v116_apply, val_main_v115_apply, val_main_v114_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_5 (i : S73728x1024.Idx) : val_main_v126 (F := Ideal) x0 x1 x2 x3 x4 x5 i
    = Scalar.select (IntOp.andi (live x2 (tileOf i)) (IntOp.cmpi .eq (show BitVec 32 from x1 (tileAt (tileOf i))) 5#32)) (mlp x0 x3 x4 x5 5 (rowOf i) (colOf i)) (0 : EReal) := by
  rw [val_main_v126_apply, val_main_call12_v1_apply, val_main_v125_apply, val_main_v124_apply, val_main_v123_apply, used_eq, expert_eq, mlp_5, val_main_call12_v2_apply, val_main_v122_apply, val_main_call12_v0_apply, val_main_cst_11_apply, val_main_c_10_apply]
  exact congrArg (Scalar.select _ _) (Ideal.ofBits_zero .f32)

end Cert.ExpertRefIdeal.Sums

end
-- ==== Proof.ExpertSums3.lean ====
/-
  Two of the eight experts of the reference, read at coordinates.
-/
module

public import proofs.«01_k».proof.Proof.ExpertTile
public import proofs.«01_k».proof.Proof.Gen.ExpertRefIdeal.Read
public import Idealize.ShloMosaic.Lib.Pipeline.ValueKit

@[expose] public section

set_option maxRecDepth 16384
set_option Elab.async false

noncomputable section

open Idealize.ShloMosaic Idealize.ShloMosaic.TcCoe

namespace Cert.ExpertRefIdeal.Sums

open Cert.ExpertRefIdeal Cert.ExpertRefIdeal.Read

variable (x0 : FVec Ideal S73728x1024 .f32) (x1 : (⟨S72, .i32⟩ : BufTy).Contents (Elt Ideal)) (x2 : (⟨S1, .i32⟩ : BufTy).Contents (Elt Ideal))
  (x3 x4 : FVec Ideal S8x1024x3584 .bf16) (x5 : FVec Ideal S8x3584x1024 .bf16)

theorem up_6 (w : FVec Ideal S8x1024x3584 .bf16) (i : S73728x3584.Idx) : val_main_v137 (F := Ideal) x0 w i = proj x0 w 6 ⟨(i 0).val, (i 0).isLt⟩ ⟨(i 1).val, (i 1).isLt⟩ := by
  have hk : (i 1).val < 3584 := (i 1).isLt
  rw [val_main_v137_apply]
  unfold proj
  refine Finset.sum_congr rfl fun k _ => congrArg₂ (· * · : EReal → EReal → EReal) (congrArg x0 (funext fun a => match a with | ⟨0, _⟩ => rfl | ⟨1, _⟩ => rfl)) ?_
  rw [val_main_v130_apply, val_main_v129_apply, val_main_v128_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_6' (w : FVec Ideal S8x1024x3584 .bf16) (i : S73728x3584.Idx) : val_main_v139 (F := Ideal) x0 w i = proj x0 w 6 ⟨(i 0).val, (i 0).isLt⟩ ⟨(i 1).val, (i 1).isLt⟩ :=
  Eq.trans rfl (up_6 x0 w i)

theorem gate_6 (i : S73728x3584.Idx) : val_main_v138 (F := Ideal) x0 x3 i = val_main_v137 (F := Ideal) x0 x3 i * Ideal.logistic (val_main_v137 (F := Ideal) x0 x3 i) := by
  pointwise [val_main_v138, val_main_call13_v5, val_main_call13_v4, val_main_call13_v3, val_main_call13_v2, val_main_call13_v1, val_main_call13_v0, val_main_call13_cst, val_main_call13_cst_0]
  rfl

theorem mlp_6 (i : S73728x1024.Idx) : val_main_v141 (F := Ideal) x0 x3 x4 x5 i = mlp x0 x3 x4 x5 6 (rowOf i) (colOf i) := by
  have hk : (i 1).val < 1024 := (i 1).isLt
  rw [val_main_v141_apply]
  unfold mlp term
  refine Finset.sum_congr rfl fun h _ => congrArg₂ (· * · : EReal → EReal → EReal) ?_ ?_
  · refine congrArg₂ (· * · : EReal → EReal → EReal) ?_ ?_
    · rw [gate_6, up_6]
    · exact up_6' x0 x4 _
  · rw [val_main_v136_apply, val_main_v135_apply, val_main_v134_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_6 (i : S73728x1024.Idx) : val_main_v146 (F := Ideal) x0 x1 x2 x3 x4 x5 i
    = Scalar.select (IntOp.andi (live x2 (tileOf i)) (IntOp.cmpi .eq (show BitVec 32 from x1 (tileAt (tileOf i))) 6#32)) (mlp x0 x3 x4 x5 6 (rowOf i) (colOf i)) (0 : EReal) := by
  rw [val_main_v146_apply, val_main_call14_v1_apply, val_main_v145_apply, val_main_v144_apply, val_main_v143_apply, used_eq, expert_eq, mlp_6, val_main_call14_v2_apply, val_main_v142_apply, val_main_call14_v0_apply, val_main_cst_13_apply, val_main_c_12_apply]
  exact congrArg (Scalar.select _ _) (Ideal.ofBits_zero .f32)

theorem up_7 (w : FVec Ideal S8x1024x3584 .bf16) (i : S73728x3584.Idx) : val_main_v157 (F := Ideal) x0 w i = proj x0 w 7 ⟨(i 0).val, (i 0).isLt⟩ ⟨(i 1).val, (i 1).isLt⟩ := by
  have hk : (i 1).val < 3584 := (i 1).isLt
  rw [val_main_v157_apply]
  unfold proj
  refine Finset.sum_congr rfl fun k _ => congrArg₂ (· * · : EReal → EReal → EReal) (congrArg x0 (funext fun a => match a with | ⟨0, _⟩ => rfl | ⟨1, _⟩ => rfl)) ?_
  rw [val_main_v150_apply, val_main_v149_apply, val_main_v148_apply]
  refine congrArg w (funext fun a => match a with | ⟨0, _⟩ => rfl | ⟨1, _⟩ => Fin.ext ?_ | ⟨2, _⟩ => Fin.ext ?_)
  · show (k.val * 3584 + (i 1).val) / 3584 % 1024 = k.val; have := k.isLt; omega
  · show (k.val * 3584 + (i 1).val) % 3584 = (i 1).val; omega

theorem up_7' (w : FVec Ideal S8x1024x3584 .bf16) (i : S73728x3584.Idx) : val_main_v159 (F := Ideal) x0 w i = proj x0 w 7 ⟨(i 0).val, (i 0).isLt⟩ ⟨(i 1).val, (i 1).isLt⟩ :=
  Eq.trans rfl (up_7 x0 w i)

theorem gate_7 (i : S73728x3584.Idx) : val_main_v158 (F := Ideal) x0 x3 i = val_main_v157 (F := Ideal) x0 x3 i * Ideal.logistic (val_main_v157 (F := Ideal) x0 x3 i) := by
  pointwise [val_main_v158, val_main_call15_v5, val_main_call15_v4, val_main_call15_v3, val_main_call15_v2, val_main_call15_v1, val_main_call15_v0, val_main_call15_cst, val_main_call15_cst_0]
  rfl

theorem mlp_7 (i : S73728x1024.Idx) : val_main_v161 (F := Ideal) x0 x3 x4 x5 i = mlp x0 x3 x4 x5 7 (rowOf i) (colOf i) := by
  have hk : (i 1).val < 1024 := (i 1).isLt
  rw [val_main_v161_apply]
  unfold mlp term
  refine Finset.sum_congr rfl fun h _ => congrArg₂ (· * · : EReal → EReal → EReal) ?_ ?_
  · refine congrArg₂ (· * · : EReal → EReal → EReal) ?_ ?_
    · rw [gate_7, up_7]
    · exact up_7' x0 x4 _
  · rw [val_main_v156_apply, val_main_v155_apply, val_main_v154_apply]
    refine congrArg x5 (funext fun a => match a with | ⟨0, _⟩ => rfl | ⟨1, _⟩ => Fin.ext ?_ | ⟨2, _⟩ => Fin.ext ?_)
    · show (h.val * 1024 + (i 1).val) / 1024 % 3584 = h.val; have := h.isLt; omega
    · show (h.val * 1024 + (i 1).val) % 1024 = (i 1).val; omega

theorem sel_7 (i : S73728x1024.Idx) : val_main_v166 (F := Ideal) x0 x1 x2 x3 x4 x5 i
    = Scalar.select (IntOp.andi (live x2 (tileOf i)) (IntOp.cmpi .eq (show BitVec 32 from x1 (tileAt (tileOf i))) 7#32)) (mlp x0 x3 x4 x5 7 (rowOf i) (colOf i)) (0 : EReal) := by
  rw [val_main_v166_apply, val_main_call16_v1_apply, val_main_v165_apply, val_main_v164_apply, val_main_v163_apply, used_eq, expert_eq, mlp_7, val_main_call16_v2_apply, val_main_v162_apply, val_main_call16_v0_apply, val_main_cst_15_apply, val_main_c_14_apply]
  exact congrArg (Scalar.select _ _) (Ideal.ofBits_zero .f32)

end Cert.ExpertRefIdeal.Sums

end
-- ==== Proof.ExpertSums.lean ====
/-
  The result of the reference: a row of a tile in use keeps the sum of the expert its tile names.
-/
module

public import proofs.«01_k».proof.Proof.ExpertSums0
public import proofs.«01_k».proof.Proof.ExpertSums1
public import proofs.«01_k».proof.Proof.ExpertSums2
public import proofs.«01_k».proof.Proof.ExpertSums3
public import proofs.«01_k».proof.Proof.Gen.ExpertRefIdeal.Read
public import Idealize.ShloMosaic.Lib.Pipeline.ValueKit

@[expose] public section

set_option maxRecDepth 16384
set_option Elab.async false

noncomputable section

open Idealize.ShloMosaic Idealize.ShloMosaic.TcCoe

namespace Cert.ExpertRefIdeal.Sums

open Cert.ExpertRefIdeal Cert.ExpertRefIdeal.Read

variable (x0 : FVec Ideal S73728x1024 .f32) (x1 : (⟨S72, .i32⟩ : BufTy).Contents (Elt Ideal)) (x2 : (⟨S1, .i32⟩ : BufTy).Contents (Elt Ideal))
  (x3 x4 : FVec Ideal S8x1024x3584 .bf16) (x5 : FVec Ideal S8x3584x1024 .bf16)

theorem zero_start (i : S73728x1024.Idx) : val_main_v7 (F := Ideal) i = (0 : EReal) := by
  rw [val_main_v7_apply, val_main_cst_apply]
  exact Ideal.ofBits_zero .f32

theorem pick_not (u : BitVec 1) (hu : ¬ u = 1#1) (p : BitVec 1) (y : EReal) : Scalar.select (IntOp.andi u p) y (0 : EReal) = 0 := by
  unfold Scalar.select
  exact if_neg fun h => hu (IntOp.andi_eq_one.mp h).1

theorem pick_eq (u : BitVec 1) (hu : u = 1#1) (e k : BitVec 32) (h : e = k) (y : EReal) : Scalar.select (IntOp.andi u (IntOp.cmpi .eq e k)) y (0 : EReal) = y := by
  unfold Scalar.select
  subst h
  exact if_pos (IntOp.andi_eq_one.mpr ⟨hu, by unfold IntOp.cmpi; simp⟩)

theorem pick_ne (u : BitVec 1) (e k : BitVec 32) (h : e ≠ k) (y : EReal) : Scalar.select (IntOp.andi u (IntOp.cmpi .eq e k)) y (0 : EReal) = 0 := by
  unfold Scalar.select
  refine if_neg fun h' => h ?_
  have this : BitVec.ofBool (e == k) = 1#1 := (IntOp.andi_eq_one.mp h').2
  by_contra hne
  rw [show (e == k) = false from beq_eq_false_iff_ne.mpr hne] at this
  exact absurd this (by decide)

/-- Eight selections of which one at most is taken: the one the word names. -/
theorem pick_sum (u : BitVec 1) (e : BitVec 32) (he : e.toNat < 8) (M : Fin 8 → EReal) :
    (((((((((0 : EReal) + Scalar.select (IntOp.andi u (IntOp.cmpi .eq e 0#32)) (M 0) (0 : EReal)) + Scalar.select (IntOp.andi u (IntOp.cmpi .eq e 1#32)) (M 1) (0 : EReal)) + Scalar.select (IntOp.andi u (IntOp.cmpi .eq e 2#32)) (M 2) (0 : EReal)) + Scalar.select (IntOp.andi u (IntOp.cmpi .eq e 3#32)) (M 3) (0 : EReal)) + Scalar.select (IntOp.andi u (IntOp.cmpi .eq e 4#32)) (M 4) (0 : EReal)) + Scalar.select (IntOp.andi u (IntOp.cmpi .eq e 5#32)) (M 5) (0 : EReal)) + Scalar.select (IntOp.andi u (IntOp.cmpi .eq e 6#32)) (M 6) (0 : EReal)) + Scalar.select (IntOp.andi u (IntOp.cmpi .eq e 7#32)) (M 7) (0 : EReal))
      = if u = 1#1 then M ⟨e.toNat, he⟩ else (0 : EReal) := by
  have key : ∀ e : BitVec 32, ∀ h : e.toNat < 8, e = 0#32 ∨ e = 1#32 ∨ e = 2#32 ∨ e = 3#32 ∨ e = 4#32 ∨ e = 5#32 ∨ e = 6#32 ∨ e = 7#32 := by
    intro e h
    have hE : ∀ n, e.toNat = n → n < 8 → e = BitVec.ofNat 32 n := fun n he hn => BitVec.eq_of_toNat_eq (by rw [he, BitVec.toNat_ofNat, Nat.mod_eq_of_lt (by omega)])
    obtain h | h | h | h | h | h | h | h : e.toNat = 0 ∨ e.toNat = 1 ∨ e.toNat = 2 ∨ e.toNat = 3 ∨ e.toNat = 4 ∨ e.toNat = 5 ∨ e.toNat = 6 ∨ e.toNat = 7 := by omega
    all_goals have := hE _ h (by omega); simp only [this]; decide
  by_cases hu : u = 1#1
  · rw [if_pos hu]
    rcases key e he with rfl | rfl | rfl | rfl | rfl | rfl | rfl | rfl
    · rw [pick_eq _ hu _ _ rfl, pick_ne _ 0#32 1#32 (by decide), pick_ne _ 0#32 2#32 (by decide), pick_ne _ 0#32 3#32 (by decide), pick_ne _ 0#32 4#32 (by decide), pick_ne _ 0#32 5#32 (by decide), pick_ne _ 0#32 6#32 (by decide), pick_ne _ 0#32 7#32 (by decide)]
      simp only [add_zero, zero_add]
      rfl
    · rw [pick_ne _ 1#32 0#32 (by decide), pick_eq _ hu _ _ rfl, pick_ne _ 1#32 2#32 (by decide), pick_ne _ 1#32 3#32 (by decide), pick_ne _ 1#32 4#32 (by decide), pick_ne _ 1#32 5#32 (by decide), pick_ne _ 1#32 6#32 (by decide), pick_ne _ 1#32 7#32 (by decide)]
      simp only [add_zero, zero_add]
      rfl
    · rw [pick_ne _ 2#32 0#32 (by decide), pick_ne _ 2#32 1#32 (by decide), pick_eq _ hu _ _ rfl, pick_ne _ 2#32 3#32 (by decide), pick_ne _ 2#32 4#32 (by decide), pick_ne _ 2#32 5#32 (by decide), pick_ne _ 2#32 6#32 (by decide), pick_ne _ 2#32 7#32 (by decide)]
      simp only [add_zero, zero_add]
      rfl
    · rw [pick_ne _ 3#32 0#32 (by decide), pick_ne _ 3#32 1#32 (by decide), pick_ne _ 3#32 2#32 (by decide), pick_eq _ hu _ _ rfl, pick_ne _ 3#32 4#32 (by decide), pick_ne _ 3#32 5#32 (by decide), pick_ne _ 3#32 6#32 (by decide), pick_ne _ 3#32 7#32 (by decide)]
      simp only [add_zero, zero_add]
      rfl
    · rw [pick_ne _ 4#32 0#32 (by decide), pick_ne _ 4#32 1#32 (by decide), pick_ne _ 4#32 2#32 (by decide), pick_ne _ 4#32 3#32 (by decide), pick_eq _ hu _ _ rfl, pick_ne _ 4#32 5#32 (by decide), pick_ne _ 4#32 6#32 (by decide), pick_ne _ 4#32 7#32 (by decide)]
      simp only [add_zero, zero_add]
      rfl
    · rw [pick_ne _ 5#32 0#32 (by decide), pick_ne _ 5#32 1#32 (by decide), pick_ne _ 5#32 2#32 (by decide), pick_ne _ 5#32 3#32 (by decide), pick_ne _ 5#32 4#32 (by decide), pick_eq _ hu _ _ rfl, pick_ne _ 5#32 6#32 (by decide), pick_ne _ 5#32 7#32 (by decide)]
      simp only [add_zero, zero_add]
      rfl
    · rw [pick_ne _ 6#32 0#32 (by decide), pick_ne _ 6#32 1#32 (by decide), pick_ne _ 6#32 2#32 (by decide), pick_ne _ 6#32 3#32 (by decide), pick_ne _ 6#32 4#32 (by decide), pick_ne _ 6#32 5#32 (by decide), pick_eq _ hu _ _ rfl, pick_ne _ 6#32 7#32 (by decide)]
      simp only [add_zero, zero_add]
      rfl
    · rw [pick_ne _ 7#32 0#32 (by decide), pick_ne _ 7#32 1#32 (by decide), pick_ne _ 7#32 2#32 (by decide), pick_ne _ 7#32 3#32 (by decide), pick_ne _ 7#32 4#32 (by decide), pick_ne _ 7#32 5#32 (by decide), pick_ne _ 7#32 6#32 (by decide), pick_eq _ hu _ _ rfl]
      simp only [add_zero, zero_add]
      rfl
  · rw [if_neg hu]
    simp only [pick_not _ hu, add_zero]

/-- The reference's result at a row and column: its tile's expert's, when the tile is in use, and zero otherwise. -/
theorem result (hx : ∀ y, (show BitVec 32 from x1 y).toNat < 8) (i : S73728x1024.Idx) :
    val_main_v167 (F := Ideal) x0 x1 x2 x3 x4 x5 i
      = if live x2 (tileOf i) = 1#1 then mlp x0 x3 x4 x5 ⟨(show BitVec 32 from x1 (tileAt (tileOf i))).toNat, hx _⟩ (rowOf i) (colOf i) else (0 : EReal) := by
  rw [val_main_v167_apply, val_main_v147_apply, val_main_v127_apply, val_main_v107_apply, val_main_v87_apply, val_main_v67_apply, val_main_v47_apply, val_main_v27_apply,
    sel_0, sel_1, sel_2, sel_3, sel_4, sel_5, sel_6, sel_7, zero_start]
  exact pick_sum (live x2 (tileOf i)) (show BitVec 32 from x1 (tileAt (tileOf i))) (hx _) (fun e => mlp x0 x3 x4 x5 e (rowOf i) (colOf i))

end Cert.ExpertRefIdeal.Sums

end
-- ==== Proof.ExpertPay.lean ====
/- One hidden tile of the expert feed-forward, read at an index: a sum over the tile's hidden columns. -/
module

public import proofs.«01_k».proof.Proof.Gen.ExpertIdeal.Skeleton
public import Idealize.ShloMosaic.Lib.Pipeline.ValueKit

@[expose] public section

set_option maxRecDepth 16384
set_option Elab.async false

noncomputable section

namespace Cert.ExpertIdeal.Hand

open Cert.ExpertIdeal Cert.ExpertIdeal.Gen
open Idealize.ShloMosaic Idealize.ShloMosaic.TcCoe

/-- A row of the block times a column of the tile. -/
def rowCol (x : Vec Ideal S1024x1024 .f32) (w : Vec Ideal S1x1024x512 .bf16) (r : Fin 1024) (h : Fin 512) : EReal :=
  ∑ k : Fin 1024, (x (ValueIdx.ix2 r k) : EReal) * (w (ValueIdx.ix3 0 k h) : EReal)

theorem pay_sum (x : Vec Ideal S1024x1024 .f32) (w1 w3 : Vec Ideal S1x1024x512 .bf16) (w2 : Vec Ideal S1x512x1024 .bf16) (y : S1024x1024.Idx) :
    k0_pay2 (k0_pay1 x) w1 w3 w2 y
      = ∑ h : Fin 512, rowCol x w1 (y 0) h * Ideal.logistic (rowCol x w1 (y 0) h) * rowCol x w3 (y 0) h * (w2 (ValueIdx.ix3 0 h (y 1)) : EReal) := by
  pointwise [k0_pay2, k0_pay1, rowCol]
  rfl

theorem pay3_eq (x : Vec Ideal S1024x1024 .bf16) (w1 w3 : Vec Ideal S1x1024x512 .bf16) (w2 : Vec Ideal S1x512x1024 .bf16) (y : S1024x1024.Idx) :
    k0_pay3 x w1 w3 w2 y = k0_pay2 x w1 w3 w2 y := by
  pointwise [k0_pay3]

theorem pay4_eq (x : Vec Ideal S1024x1024 .bf16) (w1 w3 : Vec Ideal S1x1024x512 .bf16) (w2 : Vec Ideal S1x512x1024 .bf16) (s : Vec Ideal S1024x1024 .f32) (y : S1024x1024.Idx) :
    k0_pay4 x w1 w3 w2 s y = (s y + k0_pay2 x w1 w3 w2 y : EReal) := by
  pointwise [k0_pay4]

theorem pay5_eq (y : S1024x1024.Idx) : k0_pay5 (F := Ideal) y = (0 : EReal) := by
  pointwise [k0_pay5]

end Cert.ExpertIdeal.Hand

end
-- ==== Proof.ExpertValue.lean ====
/- What the expert feed-forward computes: the result array of `Cert.ExpertIdeal` after the run is the reference's. -/
module

public import proofs.«01_k».proof.Proof.ExpertIdealFrame
public import proofs.«01_k».proof.Proof.ExpertSums
public import proofs.«01_k».proof.Proof.ExpertPay

@[expose] public section

set_option maxRecDepth 16384
set_option Elab.async false

noncomputable section

namespace Cert.ExpertIdeal.Hand

open Cert.ExpertIdeal Cert.ExpertIdeal.Gen
open Idealize.ShloMosaic Idealize.ShloMosaic.TcCoe
open Idealize.ShloMosaic.Pipeline (Dat)
open Cert.ExpertRefIdeal.Sums

variable (a : (pcfg0 (F := Ideal)).Adm) (m : (ℓ : Loc nD τ sig) → Buf (Elt Ideal) ℓ)

theorem N_eq : (cfgA a).N = 504 := N_0

/-- The row tile of a point, and its hidden tile. -/
abbrev tileP (t : Fin (cfgA a).N) : Fin 72 := ⟨t.val / 7, by have := t.isLt; have := N_eq a; omega⟩

theorem val0 (t : Fin (cfgA a).N) : (BitVec.ofNat 32 (crd a t 0).val).toNat = t.val / 7 := by
  have := (tileP a t).isLt
  have e : (crd a t 0).val = t.val / 7 := (crd_val t).1
  rw [e, BitVec.toNat_ofNat, Nat.mod_eq_of_lt (by simp only at this; omega)]
theorem val1 (t : Fin (cfgA a).N) : (BitVec.ofNat 32 (crd a t 1).val).toNat = t.val % 7 := by
  have e : (crd a t 1).val = t.val % 7 := (crd_val t).2
  rw [e, BitVec.toNat_ofNat, Nat.mod_eq_of_lt (by omega)]

/-- The expert a tile's entry names. -/
abbrev named (q : Fin 72) : ℕ := (show BitVec 32 from a.1 0 (tileAt q)).toNat

theorem entry (t : Fin (cfgA a).N) (hn : S1.numel = 1) :
    (show BitVec 32 from a.1.at 0 (Rect.unit (s := S72) ![(BitVec.ofNat 32 (crd a t 0).val).toNat] S1.size (k0_off1_inb (crd a t))) hn).toNat = named a (tileP a t) := by
  refine congrArg (fun z : S72.Idx => (show BitVec 32 from a.1 0 z).toNat) (funext fun x => Fin.ext (match x with | ⟨0, _⟩ => ?_))
  show (BitVec.ofNat 32 (crd a t 0).val).toNat + 1 * (Shape.Idx.first (s := S1) _ 0).val = t.val / 7
  have h : ∀ z : S1.Idx, 1 * (z 0).val = 0 := fun z => by have hz : (z 0).val < 1 := (z 0).isLt; omega
  exact (congrArg₂ (· + ·) (val0 a t) (h _)).trans (Nat.add_zero _)

theorem index1 (t : Fin (cfgA a).N) : ((cfgA a).win (1 : Fin 5)).index t = ![named a (tileP a t), 0, t.val % 7] := by
  show cc0_transform_1 k0_off1_inb numel1_S1 a.1 (crd a t) = _
  rw [← val1 a t, ← entry a t numel1_S1]
  rfl
theorem index2 (t : Fin (cfgA a).N) : ((cfgA a).win (2 : Fin 5)).index t = ![named a (tileP a t), 0, t.val % 7] := by
  show cc0_transform_2 k0_off1_inb numel1_S1 a.1 (crd a t) = _
  rw [← val1 a t, ← entry a t numel1_S1]
  rfl
theorem index3 (t : Fin (cfgA a).N) : ((cfgA a).win (3 : Fin 5)).index t = ![named a (tileP a t), t.val % 7, 0] := by
  show cc0_transform_3 k0_off1_inb numel1_S1 a.1 (crd a t) = _
  rw [← val1 a t, ← entry a t numel1_S1]
  rfl

variable (ha : ∀ q : Fin 72, named a q < 8)

/-- The arguments. -/
abbrev X0 (c : Dev nD) : FVec Ideal S73728x1024 .f32 := m ((c : Thread nD τ).loc main_arg0)
abbrev X3 (c : Dev nD) : FVec Ideal S8x1024x3584 .bf16 := m ((c : Thread nD τ).loc main_arg3)
abbrev X4 (c : Dev nD) : FVec Ideal S8x1024x3584 .bf16 := m ((c : Thread nD τ).loc main_arg4)
abbrev X5 (c : Dev nD) : FVec Ideal S8x3584x1024 .bf16 := m ((c : Thread nD τ).loc main_arg5)

abbrev rowP (t : Fin (cfgA a).N) (r : Fin 1024) : Fin 73728 := ⟨t.val / 7 * 1024 + r.val, by have := (tileP a t).isLt; simp only at this; omega⟩
abbrev hidP (t : Fin (cfgA a).N) (k : Fin 512) : Fin 3584 := ⟨t.val % 7 * 512 + k.val, by have : t.val % 7 < 7 := Nat.mod_lt _ (by decide); omega⟩

theorem blk0 (c : Dev nD) (t : Fin (cfgA a).N) (y : S1024x1024.Idx) (r k : Fin 1024) (h0 : (y 0).val = r.val) (h1 : (y 1).val = k.val) :
    b0 a m c t y = X0 m c (at2 (rowP a t r) k) := by
  refine congrArg (X0 m c) (funext fun x => Fin.ext ?_)
  match x with
  | ⟨0, _⟩ =>
    show ((cfgA a).win (0 : Fin 5)).index t 0 * 1024 + 1 * (y 0).val = t.val / 7 * 1024 + r.val
    rw [index0, h0, one_mul]; rfl
  | ⟨1, _⟩ =>
    show ((cfgA a).win (0 : Fin 5)).index t 1 * 1024 + 1 * (y 1).val = k.val
    rw [index0, h1, one_mul]; show 0 * 1024 + _ = _; omega

include ha in
theorem blk1 (c : Dev nD) (t : Fin (cfgA a).N) (y : S1x1024x512.Idx) (k : Fin 1024) (h : Fin 512) (h1 : (y 1).val = k.val) (h2 : (y 2).val = h.val) :
    b1 a m c t y = X3 m c (up3 ⟨named a (tileP a t), ha _⟩ k (hidP a t h)) := by
  have h0 : (y 0).val < 1 := (y 0).isLt
  refine congrArg (X3 m c) (funext fun x => Fin.ext ?_)
  match x with
  | ⟨0, _⟩ =>
    show ((cfgA a).win (1 : Fin 5)).index t 0 * 1 + 1 * (y 0).val = named a (tileP a t)
    rw [index1]; show named a (tileP a t) * 1 + 1 * (y 0).val = _; omega
  | ⟨1, _⟩ =>
    show ((cfgA a).win (1 : Fin 5)).index t 1 * 1024 + 1 * (y 1).val = k.val
    rw [index1, h1, one_mul]; show 0 * 1024 + _ = _; omega
  | ⟨2, _⟩ =>
    show ((cfgA a).win (1 : Fin 5)).index t 2 * 512 + 1 * (y 2).val = t.val % 7 * 512 + h.val
    rw [index1, h2, one_mul]; rfl

include ha in
theorem blk2 (c : Dev nD) (t : Fin (cfgA a).N) (y : S1x1024x512.Idx) (k : Fin 1024) (h : Fin 512) (h1 : (y 1).val = k.val) (h2 : (y 2).val = h.val) :
    b2 a m c t y = X4 m c (up3 ⟨named a (tileP a t), ha _⟩ k (hidP a t h)) := by
  have h0 : (y 0).val < 1 := (y 0).isLt
  refine congrArg (X4 m c) (funext fun x => Fin.ext ?_)
  match x with
  | ⟨0, _⟩ =>
    show ((cfgA a).win (2 : Fin 5)).index t 0 * 1 + 1 * (y 0).val = named a (tileP a t)
    rw [index2]; show named a (tileP a t) * 1 + 1 * (y 0).val = _; omega
  | ⟨1, _⟩ =>
    show ((cfgA a).win (2 : Fin 5)).index t 1 * 1024 + 1 * (y 1).val = k.val
    rw [index2, h1, one_mul]; show 0 * 1024 + _ = _; omega
  | ⟨2, _⟩ =>
    show ((cfgA a).win (2 : Fin 5)).index t 2 * 512 + 1 * (y 2).val = t.val % 7 * 512 + h.val
    rw [index2, h2, one_mul]; rfl

include ha in
theorem blk3 (c : Dev nD) (t : Fin (cfgA a).N) (y : S1x512x1024.Idx) (h : Fin 512) (j : Fin 1024) (h1 : (y 1).val = h.val) (h2 : (y 2).val = j.val) :
    b3 a m c t y = X5 m c (down3 ⟨named a (tileP a t), ha _⟩ (hidP a t h) j) := by
  have h0 : (y 0).val < 1 := (y 0).isLt
  refine congrArg (X5 m c) (funext fun x => Fin.ext ?_)
  match x with
  | ⟨0, _⟩ =>
    show ((cfgA a).win (3 : Fin 5)).index t 0 * 1 + 1 * (y 0).val = named a (tileP a t)
    rw [index3]; show named a (tileP a t) * 1 + 1 * (y 0).val = _; omega
  | ⟨1, _⟩ =>
    show ((cfgA a).win (3 : Fin 5)).index t 1 * 512 + 1 * (y 1).val = t.val % 7 * 512 + h.val
    rw [index3, h1, one_mul]; rfl
  | ⟨2, _⟩ =>
    show ((cfgA a).win (3 : Fin 5)).index t 2 * 1024 + 1 * (y 2).val = j.val
    rw [index3, h2, one_mul]; show 0 * 1024 + _ = _; omega

/-! ## One hidden tile's share -/

include ha in
theorem point (c : Dev nD) (t : Fin (cfgA a).N) (y : S1024x1024.Idx) :
    k0_pay2 (k0_pay1 (b0 a m c t)) (b1 a m c t) (b2 a m c t) (b3 a m c t) y
      = ∑ h : Fin 512, term (X0 m c) (X3 m c) (X4 m c) (X5 m c) ⟨named a (tileP a t), ha _⟩ (rowP a t ⟨(y 0).val, (y 0).isLt⟩) ⟨(y 1).val, (y 1).isLt⟩ (hidP a t h) := by
  rw [pay_sum]
  refine Finset.sum_congr rfl fun h _ => ?_
  unfold term
  have e1 : rowCol (b0 a m c t) (b1 a m c t) (y 0) h = proj (X0 m c) (X3 m c) ⟨named a (tileP a t), ha _⟩ (rowP a t ⟨(y 0).val, (y 0).isLt⟩) (hidP a t h) :=
    Finset.sum_congr rfl fun k _ => congrArg₂ (· * · : EReal → EReal → EReal) (blk0 a m c t _ ⟨(y 0).val, (y 0).isLt⟩ k rfl rfl) (blk1 a m ha c t _ k h rfl rfl)
  have e2 : rowCol (b0 a m c t) (b2 a m c t) (y 0) h = proj (X0 m c) (X4 m c) ⟨named a (tileP a t), ha _⟩ (rowP a t ⟨(y 0).val, (y 0).isLt⟩) (hidP a t h) :=
    Finset.sum_congr rfl fun k _ => congrArg₂ (· * · : EReal → EReal → EReal) (blk0 a m c t _ ⟨(y 0).val, (y 0).isLt⟩ k rfl rfl) (blk2 a m ha c t _ k h rfl rfl)
  rw [e1, e2]
  exact congrArg (_ * ·) (blk3 a m ha c t _ h ⟨(y 1).val, (y 1).isLt⟩ rfl rfl)

/-- The share of hidden column `n` in a row of tile `q`, zero past the last. -/
def col (c : Dev nD) (q : Fin 72) (r j : Fin 1024) (n : ℕ) : EReal :=
  if h : n < 3584 then term (X0 m c) (X3 m c) (X4 m c) (X5 m c) ⟨named a q, ha q⟩ ⟨q.val * 1024 + r.val, by omega⟩ j ⟨n, h⟩ else 0

theorem share_of (c : Dev nD) (t : Fin (cfgA a).N) (q : Fin 72) (hq : tileP a t = q) (r j : Fin 1024) :
    ∑ h : Fin 512, term (X0 m c) (X3 m c) (X4 m c) (X5 m c) ⟨named a (tileP a t), ha _⟩ (rowP a t r) j (hidP a t h)
      = ∑ n ∈ Finset.range 512, col a m ha c q r j (t.val % 7 * 512 + n) := by
  subst hq
  rw [Finset.sum_range]
  refine Finset.sum_congr rfl fun h _ => ?_
  unfold col
  rw [dif_pos (hidP a t h).isLt]

/-- The sum held after hidden tile `f` of row tile `q`: the first `f + 1` tiles' columns. -/
theorem acc_at (c : Dev nD) (q : Fin 72) (y : S1024x1024.Idx) : ∀ f, f < 7 →
    acc a m c (7 * q.val + f + 1) y = ∑ n ∈ Finset.range ((f + 1) * 512), col a m ha c q ⟨(y 0).val, (y 0).isLt⟩ ⟨(y 1).val, (y 1).isLt⟩ n := by
  have hN := N_eq a
  intro f
  induction f with
  | zero =>
    intro _
    have hb : 7 * q.val + 0 < (cfgA a).N := by omega
    have hq : tileP a ⟨7 * q.val + 0, hb⟩ = q := Fin.ext (by show (7 * q.val + 0) / 7 = q.val; omega)
    refine (congrFun (acc_first a m c ⟨7 * q.val + 0, hb⟩ (by show (7 * q.val + 0) % 7 = 0; omega)) y).trans ?_
    rw [pay3_eq, point a m ha, share_of a m ha c ⟨7 * q.val + 0, hb⟩ q hq]
    refine Finset.sum_congr rfl fun n _ => ?_
    rw [show (7 * q.val + 0) % 7 * 512 + n = n by omega]
  | succ f ih =>
    intro hf
    have hb : 7 * q.val + (f + 1) < (cfgA a).N := by omega
    have hq : tileP a ⟨7 * q.val + (f + 1), hb⟩ = q := Fin.ext (by show (7 * q.val + (f + 1)) / 7 = q.val; omega)
    refine (congrFun (acc_next a m c ⟨7 * q.val + (f + 1), hb⟩ (by show ¬ (7 * q.val + (f + 1)) % 7 = 0; omega)) y).trans ?_
    rw [pay4_eq, point a m ha, share_of a m ha c ⟨7 * q.val + (f + 1), hb⟩ q hq]
    rw [show (f + 1 + 1) * 512 = (f + 1) * 512 + 512 by omega, Finset.sum_range_add]
    refine congrArg₂ (· + · : EReal → EReal → EReal) (ih (by omega)) (Finset.sum_congr rfl fun n _ => ?_)
    rw [show (7 * q.val + (f + 1)) % 7 * 512 + n = (f + 1) * 512 + n by omega]

theorem col_all (c : Dev nD) (q : Fin 72) (r j : Fin 1024) :
    ∑ n ∈ Finset.range 3584, col a m ha c q r j n = mlp (X0 m c) (X3 m c) (X4 m c) (X5 m c) ⟨named a q, ha q⟩ ⟨q.val * 1024 + r.val, by omega⟩ j := by
  rw [Finset.sum_range]
  unfold mlp
  refine Finset.sum_congr rfl fun h _ => ?_
  unfold col
  rw [dif_pos h.isLt]

theorem one_idx (x y : S1.Idx) : x = y := funext fun k => Fin.ext (match k with
  | ⟨0, _⟩ => by have hx : (x 0).val < 1 := (x 0).isLt; have hy : (y 0).val < 1 := (y 0).isLt; show (x 0).val = (y 0).val; omega)

theorem word_eq : word (a.1 1) = (show BitVec 32 from a.1 1 one1) := congrArg (a.1 1) (one_idx _ _)

theorem used_iff (t : Fin (cfgA a).N) : used a t ↔ live (a.1 1) (tileP a t) = 1#1 := by
  unfold used live
  rw [word_eq, show (crd a t 0).val = t.val / 7 from (crd_val t).1]
  exact Iff.rfl

/-- Where an output block's element lies in the result. -/
theorem out_emb (t : Fin (cfgA a).N) (y : S1024x1024.Idx) :
    (((cfgA a).win (4 : Fin 5)).blk t).view.emb y = (at2 (rowP a t ⟨(y 0).val, (y 0).isLt⟩) ⟨(y 1).val, (y 1).isLt⟩ : S73728x1024.Idx) := by
  refine funext fun x => Fin.ext ?_
  match x with
  | ⟨0, _⟩ =>
    show ((cfgA a).win (4 : Fin 5)).index t 0 * 1024 + 1 * (y 0).val = t.val / 7 * 1024 + (y 0).val
    rw [index4, one_mul]; rfl
  | ⟨1, _⟩ =>
    show ((cfgA a).win (4 : Fin 5)).index t 1 * 1024 + 1 * (y 1).val = (y 1).val
    rw [index4, one_mul]; show 0 * 1024 + _ = _; omega

/-- The reference's result, on the arguments and the pipeline's tables. -/
abbrev REF (x0 : FVec Ideal Cert.ExpertRefIdeal.S73728x1024 .f32) (x1 : (⟨Cert.ExpertRefIdeal.S72, .i32⟩ : BufTy).Contents (Elt Ideal)) (x2 : (⟨Cert.ExpertRefIdeal.S1, .i32⟩ : BufTy).Contents (Elt Ideal))
    (x3 x4 : FVec Ideal Cert.ExpertRefIdeal.S8x1024x3584 .bf16) (x5 : FVec Ideal Cert.ExpertRefIdeal.S8x3584x1024 .bf16) : FVec Ideal Cert.ExpertRefIdeal.S73728x1024 .f32 :=
  Cert.ExpertRefIdeal.Read.val_main_v167 (F := Ideal) x0 x1 x2 x3 x4 x5

theorem out_point (c : Dev nD) (hx : ∀ y : S72.Idx, (show BitVec 32 from a.1 0 y).toNat < 8) (t : Fin (cfgA a).N) (hf : t.val % 7 = 6) (y : S1024x1024.Idx) :
    outAt a m c t y = REF (X0 m c) (a.1 0) (a.1 1) (X3 m c) (X4 m c) (X5 m c) (at2 (rowP a t ⟨(y 0).val, (y 0).isLt⟩) ⟨(y 1).val, (y 1).isLt⟩) := by
  have hy0 : (y 0).val < 1024 := (y 0).isLt
  have hq : tileOf (at2 (rowP a t ⟨(y 0).val, (y 0).isLt⟩) ⟨(y 1).val, (y 1).isLt⟩) = tileP a t :=
    Fin.ext (by show (t.val / 7 * 1024 + (y 0).val) / 1024 = t.val / 7; omega)
  have hn : ∀ q, named a q < 8 := fun q => hx _
  refine Eq.trans ?_ (result (X0 m c) (a.1 0) (a.1 1) (X3 m c) (X4 m c) (X5 m c) hx _).symm
  unfold outAt
  by_cases hu : used a t
  · rw [if_pos hu, if_pos (by rw [hq]; exact (used_iff a t).mp hu)]
    have e := acc_at a m hn c (tileP a t) y 6 (by decide)
    rw [show 7 * (tileP a t).val + 6 + 1 = t.val + 1 by show 7 * (t.val / 7) + 6 + 1 = t.val + 1; omega] at e
    refine e.trans ((col_all a m hn c (tileP a t) _ _).trans ?_)
    refine congrArg (fun e => mlp (X0 m c) (X3 m c) (X4 m c) (X5 m c) e (rowP a t ⟨(y 0).val, (y 0).isLt⟩) ⟨(y 1).val, (y 1).isLt⟩) (Fin.ext ?_)
    exact congrArg (fun q => named a q) hq.symm
  · rw [if_neg hu, if_neg (fun h => hu ((used_iff a t).mpr (by rw [hq] at h; exact h)))]
    exact pay5_eq y

/-- The result array after the run, at any admissible tables. -/
theorem final_at (c : Dev nD) (hx : ∀ y : S72.Idx, (show BitVec 32 from a.1 0 y).toNat < 8) :
    (dats a m 0 c).arrAt (4 : Fin 5) (cfgA a).N = REF (X0 m c) (a.1 0) (a.1 1) (X3 m c) (X4 m c) (X5 m c) := by
  have hN := N_eq a
  refine (dats a m 0 c).arrAt_eq_of_emb (4 : Fin 5) _ (fun t hf y => ?_) fun i => ?_
  · rw [flush4] at hf
    refine Eq.trans ?_ (congrArg (REF (X0 m c) (a.1 0) (a.1 1) (X3 m c) (X4 m c) (X5 m c)) (out_emb a t y).symm)
    exact out_point a m c hx t (of_decide_eq_true hf) y
  · have hi0 : (i 0).val < 73728 := (i 0).isLt
    have hi1 : (i 1).val < 1024 := (i 1).isLt
    have hb : 7 * ((i 0).val / 1024) + 6 < (cfgA a).N := by omega
    refine ⟨⟨7 * ((i 0).val / 1024) + 6, hb⟩, ?_, ?_⟩
    · rw [flush4]; exact decide_eq_true (by show (7 * ((i 0).val / 1024) + 6) % 7 = 6; omega)
    · have e := out_emb a ⟨7 * ((i 0).val / 1024) + 6, hb⟩ (ValueIdx.ix2 (⟨(i 0).val % 1024, by omega⟩ : Fin 1024) (⟨(i 1).val, hi1⟩ : Fin 1024))
      have hi : i = (((cfgA a).win (4 : Fin 5)).blk ⟨7 * ((i 0).val / 1024) + 6, hb⟩).view.emb (ValueIdx.ix2 (⟨(i 0).val % 1024, by omega⟩ : Fin 1024) (⟨(i 1).val, hi1⟩ : Fin 1024)) := by
        refine Eq.trans (funext fun x => Fin.ext ?_) e.symm
        match x with
        | ⟨0, _⟩ => show (i 0).val = (7 * ((i 0).val / 1024) + 6) / 7 * 1024 + (i 0).val % 1024; omega
        | ⟨1, _⟩ => rfl
      exact Eq.mpr (congrArg (· ∈ (((cfgA a).win (4 : Fin 5)).blk ⟨7 * ((i 0).val / 1024) + 6, hb⟩).view.set) hi) (View.emb_mem_set _ _)

/-- The result array after the run from a launch memory whose entries name experts. -/
theorem final (h : ∀ y : S72.Idx, (show BitVec 32 from m (((0 : Dev nD) : Thread nD τ).loc main_arg1) y).toNat < 8) (c : Dev nD) :
    (dats (adm m h) m 0 c).arrAt (4 : Fin 5) (cfgA (adm m h)).N
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain rfl : c = 0 := Subsingleton.elim _ _
  exact final_at (adm m h) m 0 h

end Cert.ExpertIdeal.Hand

end
-- ==== Proof.ExpertClaims.lean ====
/- The claims about `Expert` and its reference, each from one run of the program it speaks of. -/
module

public import proofs.«01_k».proof.Defs
public import proofs.«01_k».proof.Proof.ExpertFrame
public import proofs.«01_k».proof.Proof.ExpertValue
public import proofs.«01_k».proof.Proof.Gen.Expert
public import proofs.«01_k».proof.Proof.Gen.ExpertIdeal
public import proofs.«01_k».proof.Proof.Gen.ExpertRefIdeal
public import proofs.«01_k».proof.Proof.Gen.ExpertRefIdeal.Run
public import proofs.«01_k».proof.Proof.Gen.ExpertRefIdeal.Read
public import proofs.«01_k».proof.Proof.Gen.Pre_expert_range
public import Idealize.ShloMosaic.Lib.Claim
public import Idealize.ShloMosaic.Lib.ReduceAll
public import Idealize.ShloMosaic.Lib.Affine

@[expose] public section

set_option maxRecDepth 16384

noncomputable section

namespace Cert.ExpertClaims

open Idealize.ShloMosaic Idealize.ShloMosaic.TcCoe Idealize.SL.Sem

/-- A word that is at least zero and below eight, read signed, is below eight read unsigned. -/
theorem small (x : BitVec 32) (h : IntOp.andi (IntOp.cmpi .sge x 0#32) (IntOp.cmpi .slt x 8#32) = 1#1) : x.toNat < 8 := by
  obtain ⟨h1, h2⟩ := IntOp.andi_eq_one.mp h
  have ob : ∀ b : Bool, BitVec.ofBool b = 1#1 → b = true := by decide
  have h1 : (0#32).sle x = true := ob _ h1
  have h2 : x.slt 8#32 = true := ob _ h2
  rw [BitVec.sle_iff_toInt_le] at h1
  rw [BitVec.slt_iff_toInt_lt] at h2
  have e0 : (0#32).toInt = 0 := by decide
  have e8 : (8#32).toInt = 8 := by decide
  rw [e0] at h1
  rw [e8] at h2
  rw [BitVec.toInt_eq_toNat_cond] at h1 h2
  have := x.isLt
  split at h1 <;> split at h2 <;> omega

/-- The precondition, read at an entry of the table of experts. -/
theorem entry_small {F : FTy → Type} [FloatOps F] (x0 : FVec F Cert.Pre_expert_range.S73728x1024 .f32) (x1 : IVec Cert.Pre_expert_range.S72 32) (x2 : IVec Cert.Pre_expert_range.S1 32)
    (x3 x4 : FVec F Cert.Pre_expert_range.S8x1024x3584 .bf16) (x5 : FVec F Cert.Pre_expert_range.S8x3584x1024 .bf16)
    (h : @Cert.Pre_expert_range.fn Cert.Pre_expert_range.Gen.facts F _ x0 x1 x2 x3 x4 x5 = fun _ => 1#1) (y : Cert.Pre_expert_range.S72.Idx) : (x1 y).toNat < 8 := by
  have hc := congrFun h (fun a => a.elim0)
  dsimp only [Cert.Pre_expert_range.fn] at hc
  haveI : Subsingleton Cert.Pre_expert_range.S_.Idx := ⟨fun a b => funext fun x => x.elim0⟩
  exact small _ (Host.reduce_andi_all _ _ _ _ _ hc y)

theorem range (m : (ℓ : Loc Cert.Expert.nD Cert.Expert.τ Cert.Expert.sig) → Buf (Elt Bits) ℓ) (h : Cert.Pre_Expert (hPre_expert_range := Cert.Pre_expert_range.Gen.facts) m)
    (y : Cert.Expert.S72.Idx) : (show BitVec 32 from m (((0 : Dev Cert.Expert.nD) : Thread Cert.Expert.nD Cert.Expert.τ).loc Cert.Expert.main_arg1) y).toNat < 8 :=
  entry_small _ _ _ _ _ _ (h 0) y

theorem range_ideal (m : (ℓ : Loc Cert.ExpertIdeal.nD Cert.ExpertIdeal.τ Cert.ExpertIdeal.sig) → Buf (Elt Ideal) ℓ) (h : Cert.Pre_ExpertIdeal (hPre_expert_range := Cert.Pre_expert_range.Gen.facts) m)
    (y : Cert.ExpertIdeal.S72.Idx) : (show BitVec 32 from m (((0 : Dev Cert.ExpertIdeal.nD) : Thread Cert.ExpertIdeal.nD Cert.ExpertIdeal.τ).loc Cert.ExpertIdeal.main_arg1) y).toNat < 8 :=
  entry_small _ _ _ _ _ _ (h 0) y

theorem frame : Cert.quiescent_Expert (hExpert := Cert.Expert.Gen.facts) (hPre_expert_range := Cert.Pre_expert_range.Gen.facts) := fun m g hp =>
  (θ_run _ _ _).mono (fun r h => ⟨fun c => (h.1 c).2, h.2⟩) (Cert.Expert.Hand.run_main m g (range m hp))

theorem frame_ideal : Cert.quiescent_ExpertIdeal (hExpertIdeal := Cert.ExpertIdeal.Gen.facts) (hPre_expert_range := Cert.Pre_expert_range.Gen.facts) := fun m g hp =>
  (θ_run _ _ _).mono (fun r h => ⟨fun c => (h.1 c).2, h.2⟩) (Cert.ExpertIdeal.Hand.run_main m g (range_ideal m hp))

set_option maxHeartbeats 1600000 in
theorem frame_ref : Cert.quiescent_ExpertRefIdeal (hExpertRefIdeal := Cert.ExpertRefIdeal.Gen.facts) := by
  intro m g _
  exact (θ_run _ _ _).mono (fun r h => ⟨fun c => (h c).2, sem_eq_zero_of_no_sems rfl _⟩) (Cert.ExpertRefIdeal.Value.run m g)

theorem frame_ref_pre : Cert.quiescent_ExpertRefIdeal_pre_expert_range (hExpertRefIdeal := Cert.ExpertRefIdeal.Gen.facts) (hPre_expert_range := Cert.Pre_expert_range.Gen.facts) :=
  fun m g _ => frame_ref m g trivial

/-- The run of `ExpertIdeal`, for the pair of runs: its result and its arguments. -/
theorem run_ideal (m : (ℓ : Loc Cert.ExpertIdeal.nD Cert.ExpertIdeal.τ Cert.ExpertIdeal.sig) → Buf (Elt Ideal) ℓ) (g : Dev Cert.ExpertIdeal.nD → PrngReg)
    (h : ∀ y : Cert.ExpertIdeal.S72.Idx, (show BitVec 32 from m (((0 : Dev Cert.ExpertIdeal.nD) : Thread Cert.ExpertIdeal.nD Cert.ExpertIdeal.τ).loc Cert.ExpertIdeal.main_arg1) y).toNat < 8) :
    θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
      r.2.mem ((c.tc : Thread Cert.ExpertIdeal.nD Cert.ExpertIdeal.τ).loc Cert.ExpertIdeal.main_v0)
        = Cert.ExpertIdeal.Hand.REF (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5))
      ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)) :=
  (θ_run _ _ _).mono (fun r hr c => ⟨((hr.1 c).1).trans (Cert.ExpertIdeal.Hand.final m h c), (hr.1 c).2⟩) (Cert.ExpertIdeal.Hand.run_main m g h)

/-- Equal arguments give equal results. -/
theorem same {x0 y0 : FVec Ideal Cert.ExpertRefIdeal.S73728x1024 .f32} {x1 y1 : (⟨Cert.ExpertRefIdeal.S72, .i32⟩ : BufTy).Contents (Elt Ideal)} {x2 y2 : (⟨Cert.ExpertRefIdeal.S1, .i32⟩ : BufTy).Contents (Elt Ideal)}
    {x3 y3 x4 y4 : FVec Ideal Cert.ExpertRefIdeal.S8x1024x3584 .bf16} {x5 y5 : FVec Ideal Cert.ExpertRefIdeal.S8x3584x1024 .bf16}
    (h0 : x0 = y0) (h1 : x1 = y1) (h2 : x2 = y2) (h3 : x3 = y3) (h4 : x4 = y4) (h5 : x5 = y5) :
    Cert.ExpertIdeal.Hand.REF x0 x1 x2 x3 x4 x5 = Cert.ExpertIdeal.Hand.REF y0 y1 y2 y3 y4 y5 := by
  subst h0 h1 h2 h3 h4 h5
  rfl

theorem algebraic : Cert.algebraic_ExpertIdeal_ExpertRefIdeal (hExpertIdeal := Cert.ExpertIdeal.Gen.facts) (hExpertRefIdeal := Cert.ExpertRefIdeal.Gen.facts) (hPre_expert_range := Cert.Pre_expert_range.Gen.facts) := by
  intro m g m' g' hpre hagree
  refine ⟨_, run_ideal m g (range_ideal m hpre), ?_⟩
  refine (θ_run _ _ _).mono (fun r h c => ?_) (Cert.ExpertRefIdeal.Value.run m' g')
  obtain ⟨h0, h1, h2, h3, h4, h5⟩ := hagree c
  exact ⟨((h c).1.trans (Cert.ExpertRefIdeal.Read.val_main_v167_eq ..)).trans (same h0 h1 h2 h3 h4 h5), (h c).2⟩

end Cert.ExpertClaims

end
-- ==== Proof.FfnValue.lean ====
/- What the call computes: the result array of `Cert.FfnIdeal` after the run is the reference's. -/
module

public import proofs.«01_k».proof.Proof.Gen.FfnIdeal.Frame
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnRefIdeal.Read

variable (m : (ℓ : Loc nD τ sig) → Buf (Elt Ideal) ℓ)

/-- The reference's result as a function of its arguments. -/
abbrev REF (a0 : FVec Ideal Cert.FfnRefIdeal.S32768x1024 .bf16) (a1 : FVec Ideal Cert.FfnRefIdeal.S32768x1024 .f32) (a2 : FVec Ideal Cert.FfnRefIdeal.S1024x2816 .bf16) (a3 : FVec Ideal Cert.FfnRefIdeal.S1024x2816 .bf16) (a4 : FVec Ideal Cert.FfnRefIdeal.S2816x1024 .bf16) : FVec Ideal Cert.FfnRefIdeal.S32768x1024 .f32 :=
  val_main_v9 (F := Ideal) a0 a1 a2 a3 a4

/-- every window's block index at every grid point, in closed form (decided). -/
theorem idx_val : ∀ t : Fin cfg0.N, win0_0.index t = ![t.val / 2, 0]
    ∧ win0_1.index t = ![t.val / 2, 0]
    ∧ win0_2.index t = ![0, t.val % 2]
    ∧ win0_3.index t = ![0, t.val % 2]
    ∧ win0_4.index t = ![t.val % 2, 0]
    ∧ win0_5.index t = ![0, 0]
    ∧ win0_6.index t = ![t.val / 2, 0] :=
  (by decide +kernel : ∀ t : Fin grid0.N, _)

/-- A sum over the hidden columns, in two halves. -/
theorem sum_halves (f : Fin 2816 → EReal) :
    ∑ x, f x = ∑ k : Fin 1408, f ⟨k.val, by omega⟩ + ∑ k : Fin 1408, f ⟨1408 + k.val, by omega⟩ :=
  Fin.sum_univ_add (a := 1408) (b := 1408) f

set_option maxHeartbeats 1600000 in
/-- Two half sums over the hidden columns, the second on top of the first, are the sum over all of them. -/
theorem point (c : Dev nD) (t u : Fin cfg0.N) (h : t.val % 2 = 1) (hu : u.val = t.val - 1) (y) :
    k0_pay2 (iblk m c 0 t) (iblk m c 2 t) (iblk m c 3 t) (k0_pay2 (iblk m c 0 u) (iblk m c 2 u) (iblk m c 3 u) (k0_pay1 (iblk m c 1 u)) (iblk m c 4 u)) (iblk m c 4 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 6).blk t).view.emb y) := by
  pointwise [k0_pay1, k0_pay2, REF, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  refine (add_assoc _ _ _).trans (congrArg₂ (· + · : EReal → EReal → EReal) ?_ ?_)
  · blk_point [iblk, V, idx_val t, idx_val u]
  refine Eq.trans ?_ (sum_halves _).symm
  refine congrArg₂ (· + · : EReal → EReal → EReal) (Finset.sum_congr rfl fun k _ => ?_) (Finset.sum_congr rfl fun k _ => ?_)
  · refine congrArg₂ (· * · : EReal → EReal → EReal) (congrArg₂ (· * · : EReal → EReal → EReal) (congrArg₂ (· * · : EReal → EReal → EReal) ?_ (congrArg Ideal.logistic ?_)) ?_) ?_ <;>
      blk_point [iblk, V, idx_val t, idx_val u]
  · refine congrArg₂ (· * · : EReal → EReal → EReal) (congrArg₂ (· * · : EReal → EReal → EReal) (congrArg₂ (· * · : EReal → EReal → EReal) ?_ (congrArg Ideal.logistic ?_)) ?_) ?_ <;>
      blk_point [iblk, V, idx_val t, idx_val u]

/-- The result array after the run: the flushed blocks tile it. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h : t.val % 2 = 1 := (flush0_6 t).mp hf
  have hp : t.val - 1 < cfg0.N := Nat.lt_of_le_of_lt (Nat.sub_le _ _) t.isLt
  blk_simp; rw [after0_6, outsAt0_B m c t (by omega) h]
  dsimp only
  rw [show outsAt0 m c (t.val - 1) hp = _ from outsAt0_A m c ⟨t.val - 1, hp⟩ (by show (t.val - 1) % 2 = 0; omega) (by show ¬(t.val - 1) % 2 = 1; omega)]
  frame_out
  refine Eq.trans ?_ (point m c t ⟨t.val - 1, hp⟩ h rfl y)
  exact congrFun (congrArg (fun s => k0_pay2 (iblk m c 0 t) (iblk m c 2 t) (iblk m c 3 t) s (iblk m c 4 t)) ((show scM0_0.IsWhole from Memref.isWhole_whole _).read_unread _)) y

end Cert.FfnIdeal.Value

end
-- ==== Proof.FfnClaims.lean ====
/- The claims about `Ffn` and its reference, each from one run of the program it speaks of. -/
module

public import proofs.«01_k».proof.Defs
public import proofs.«01_k».proof.Proof.FfnValue
public import proofs.«01_k».proof.Proof.Gen.Ffn.Frame
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import Idealize.ShloMosaic.Lib.Claim

@[expose] public section

set_option maxRecDepth 16384

noncomputable section

namespace Cert.FfnClaims

open Idealize.ShloMosaic Idealize.ShloMosaic.TcCoe Idealize.SL.Sem

theorem frame : Cert.quiescent_Ffn (hFfn := Cert.Ffn.Gen.facts) := fun m g _ => Cert.Ffn.Gen.frame m g

theorem frame_ideal : Cert.quiescent_FfnIdeal (hFfnIdeal := Cert.FfnIdeal.Gen.facts) := fun m g _ => Cert.FfnIdeal.Gen.frame m g

set_option maxHeartbeats 1600000 in
theorem frame_ref : Cert.quiescent_FfnRefIdeal (hFfnRefIdeal := Cert.FfnRefIdeal.Gen.facts) := by
  intro m g _
  exact (θ_run _ _ _).mono (fun r h => ⟨fun c => (h c).2, sem_eq_zero_of_no_sems rfl _⟩) (Cert.FfnRefIdeal.Value.run m g)

set_option maxHeartbeats 1600000 in
theorem algebraic : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    · exact (Cert.FfnRefIdeal.Read.val_main_v9_eq ..).trans (Cert.FfnIdeal.Value.final m c).symm

end Cert.FfnClaims

end
-- ==== Proof.Finite.lean ====
/- Extended reals that are real numbers: what the finiteness preconditions give and what the proofs do with them. -/
module

public import Idealize.ShloMosaic.PureOps
public import Idealize.ShloMosaic.PureOps.Ideal.Laws

@[expose] public section

noncomputable section

namespace Cert.Finite

open Idealize.ShloMosaic

/-- A real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sum {ι : Type*} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))
theorem IsReal.sub_self {x : EReal} (hx : IsReal x) : x - x = 0 := by
  obtain ⟨a, rfl⟩ := hx
  rw [← EReal.coe_sub, _root_.sub_self, EReal.coe_zero]

theorem inf_eq : Ideal.ofBits .f32 0x7F800000#32 = ⊤ := by simp [Ideal.ofBits, Ideal.ieee]

/-- The test `|x| < inf` of a precondition. -/
theorem isReal_of_cmp (x : EReal) (h : Ideal.cmp .olt (max x (-x)) (Ideal.ofBits .f32 0x7F800000#32) = 1#1) : IsReal x := by
  rw [inf_eq] at h
  induction x using EReal.rec with
  | bot => simp [Ideal.cmp] at h
  | coe r => exact ⟨r, rfl⟩
  | top => simp [Ideal.cmp] at h

theorem ofBits_1024 : Ideal.ofBits .f32 0x44800000#32 = ((1024 : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨(8796093 : ℝ) * 2 ^ (-43 : Int), by positivity, ?_⟩
  simp [Ideal.ofBits, Ideal.ieee, -EReal.coe_mul]

theorem mul_self_nonneg' (x : EReal) : 0 ≤ x * x := by
  induction x using EReal.rec with
  | bot => simp
  | coe r => rw [← EReal.coe_mul]; exact_mod_cast mul_self_nonneg r
  | top => simp

/-- An entry over the root of its row's mean square is a real number, whatever the row holds. -/
theorem isReal_rms {n : ℕ} (f : Fin n → EReal) (k : Fin n) :
    IsReal (f k * Ideal.rsqrt (Ideal.div (∑ j, f j * f j) (Ideal.ofBits .f32 0x44800000#32) + Ideal.ofBits .f32 0x358637BD#32)) := by
  obtain ⟨e, he, hE⟩ := ofBits_eps
  rw [ofBits_1024, hE, Ideal.div_coe (by norm_num)]
  have hs : 0 ≤ ∑ j, f j * f j := Finset.sum_nonneg fun j _ => mul_self_nonneg' (f j)
  by_cases ht : ∑ j, f j * f j = ⊤
  · rw [ht, EReal.top_mul_coe_of_pos (by norm_num), EReal.top_add_coe, Ideal.rsqrt_top, mul_zero]
    exact IsReal.zero
  · have hk : IsReal (f k) := by
      have hle : f k * f k ≤ ∑ j, f j * f j := Finset.single_le_sum (f := fun j => f j * f j) (fun j _ => mul_self_nonneg' (f j)) (Finset.mem_univ k)
      generalize f k = x at hle
      induction x using EReal.rec with
      | bot => exact absurd (top_le_iff.mp (by simpa using hle)) ht
      | coe r => exact ⟨r, rfl⟩
      | top => exact absurd (top_le_iff.mp (by simpa using hle)) ht
    refine hk.mul ?_
    generalize (∑ j, f j * f j) = s at hs ht
    induction s using EReal.rec with
    | bot => simp at hs
    | coe r =>
      have hr : (0 : ℝ) ≤ r := by exact_mod_cast hs
      rw [← EReal.coe_mul, ← EReal.coe_add, Ideal.rsqrt_coe, if_neg (not_lt.mpr (by positivity)), if_neg (by positivity)]
      exact ⟨_, rfl⟩
    | top => exact absurd rfl ht

end Cert.Finite

end
-- ==== Proof.InProjValue.lean ====
/- What the call computes: the result arrays of `Cert.InProjIdeal` after the run are the reference's. -/
module

public import proofs.«01_k».proof.Proof.Gen.InProjIdeal.Frame
public import proofs.«01_k».proof.Proof.Gen.InProjRefIdeal.Read
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.InProjRefIdeal.Read

variable (m : (ℓ : Loc nD τ sig) → Buf (Elt Ideal) ℓ)

/-- The reference's result as a function of its arguments. -/
abbrev REF_v30 (a0 : FVec Ideal Cert.InProjRefIdeal.S32768x1024 .f32) (a1 : FVec Ideal Cert.InProjRefIdeal.S1x1024 .f32) (a2 : FVec Ideal Cert.InProjRefIdeal.S1024x3072 .bf16) : FVec Ideal Cert.InProjRefIdeal.S32768x3072 .bf16 :=
  val_main_v30 (F := Ideal) a0 a1 a2

/-- The reference's result as a function of its arguments. -/
abbrev REF_v17 (a0 : FVec Ideal Cert.InProjRefIdeal.S32768x1024 .f32) (a1 : FVec Ideal Cert.InProjRefIdeal.S1x1024 .f32) (a3 : FVec Ideal Cert.InProjRefIdeal.S1024x3072 .bf16) : FVec Ideal Cert.InProjRefIdeal.S32768x3072 .f32 :=
  val_main_v17 (F := Ideal) a0 a1 a3

/-- The reference's result as a function of its arguments. -/
abbrev REF_v31 (a0 : FVec Ideal Cert.InProjRefIdeal.S32768x1024 .f32) (a1 : FVec Ideal Cert.InProjRefIdeal.S1x1024 .f32) (a4 : FVec Ideal Cert.InProjRefIdeal.S1024x4096 .bf16) (a5 : FVec Ideal Cert.InProjRefIdeal.S1x4096 .f32) : FVec Ideal Cert.InProjRefIdeal.S32768x4096 .bf16 :=
  val_main_v31 (F := Ideal) a0 a1 a4 a5

/-- The reference's result as a function of its arguments. -/
abbrev REF_v32 (a0 : FVec Ideal Cert.InProjRefIdeal.S32768x1024 .f32) (a1 : FVec Ideal Cert.InProjRefIdeal.S1x1024 .f32) (a6 : FVec Ideal Cert.InProjRefIdeal.S1024x128 .f32) : FVec Ideal Cert.InProjRefIdeal.S32768x128 .f32 :=
  val_main_v32 (F := Ideal) a0 a1 a6

/-- every window's block index at every grid point, in closed form (decided). -/
theorem idx : ∀ t : Fin cfg0.N, win0_0.index t = ![(grid0.coords t 0).val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![(grid0.coords t 0).val, 0]
    ∧ win0_8.index t = ![(grid0.coords t 0).val, 0]
    ∧ win0_9.index t = ![(grid0.coords t 0).val, 0]
    ∧ win0_10.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

set_option maxHeartbeats 1600000 in
/-- The block written is, at each entry, the reference at the matching entry: one case per row tile stored. -/
theorem point_7 (c : Dev nD) (t : Fin cfg0.N) (y) :
    out0_7 (iblk m c 0 t) (iblk m c 1 t) (iblk m c 2 t) (iblk m c 3 t) (iblk m c 4 t) (iblk m c 5 t) (iblk m c 6 t) y
      = REF_v30 (m ((c : Thread nD τ).loc main_arg0)) (m ((c : Thread nD τ).loc main_arg1)) (m ((c : Thread nD τ).loc
        main_arg2)) (((cfg0.win 7).blk t).view.emb y) := by
  canon_tiles x h; all_goals (open_payloads; pointwise [REF_v30, val_main_v30, val_main_v15, val_main_v13, val_main_v9, val_main_v8, val_main_v7, val_main_v6, val_main_v4, val_main_v2, val_main_v1, val_main_v0, val_main_cst, val_main_v3, val_main_cst_0, val_main_v5, val_main_cst_1, val_main_v12, val_main_v11, val_main_v10, val_main_v14]; blk_point [iblk, V, idx_val t])

theorem final_7 (c : Dev nD) : (dats m 0 c).arrAt 7 (cfgs 0).N = REF_v30 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]
  exact point_7 m c t y

set_option maxHeartbeats 1600000 in
/-- The block written is, at each entry, the reference at the matching entry: one case per row tile stored. -/
theorem point_8 (c : Dev nD) (t : Fin cfg0.N) (y) :
    out0_8 (iblk m c 0 t) (iblk m c 1 t) (iblk m c 2 t) (iblk m c 3 t) (iblk m c 4 t) (iblk m c 5 t) (iblk m c 6 t) y
      = REF_v17 (m ((c : Thread nD τ).loc main_arg0)) (m ((c : Thread nD τ).loc main_arg1)) (m ((c : Thread nD τ).loc
        main_arg3)) (((cfg0.win 8).blk t).view.emb y) := by
  canon_tiles x h; all_goals (open_payloads; pointwise [REF_v17, val_main_v17, val_main_v13, val_main_v9, val_main_v8, val_main_v7, val_main_v6, val_main_v4, val_main_v2, val_main_v1, val_main_v0, val_main_cst, val_main_v3, val_main_cst_0, val_main_v5, val_main_cst_1, val_main_v12, val_main_v11, val_main_v10, val_main_v16]; blk_point [iblk, V, idx_val t])

theorem final_8 (c : Dev nD) : (dats m 0 c).arrAt 8 (cfgs 0).N = REF_v17 (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp; rw [after0_8]
  exact point_8 m c t y

set_option maxHeartbeats 1600000 in
/-- What the body stores at block index `y` of point `t` is the reference at the array index `y` sits at. -/
theorem point_9 (c : Dev nD) (t : Fin cfg0.N) (y) :
    out0_9 (iblk m c 0 t) (iblk m c 1 t) (iblk m c 2 t) (iblk m c 3 t) (iblk m c 4 t) (iblk m c 5 t) (iblk m c 6 t) y
      = REF_v31 (m ((c : Thread nD τ).loc main_arg0)) (m ((c : Thread nD τ).loc main_arg1)) (m ((c : Thread nD τ).loc
        main_arg4)) (m ((c : Thread nD τ).loc main_arg5)) (((cfg0.win 9).blk t).view.emb y) := by
  canon_tiles x h; open_payloads
  all_goals
    pointwise [k0_pay1, k0_pay2, k0_pay4, k0_pay5, k0_pay9, k0_pay10, k0_pay11, k0_pay12, k0_pay13, k0_pay14, k0_pay15, REF_v31, val_main_v31, val_main_v29, val_main_v28, val_main_cst_3, val_main_v27, val_main_v26, val_main_cst_2, val_main_v25, val_main_v24, val_main_v23, val_main_v19, val_main_v13, val_main_v9, val_main_v8, val_main_v7, val_main_v6, val_main_v4, val_main_v2, val_main_v1, val_main_v0, val_main_cst, val_main_v3, val_main_cst_0, val_main_v5, val_main_cst_1, val_main_v12, val_main_v11, val_main_v10, val_main_v18, val_main_v22, val_main_v21, val_main_v20]
    refine congrArg Ideal.logistic (congrArg₂ (· + · : EReal → EReal → EReal) ?_ ?_)
    · blk_point [iblk, V, idx_val t]
    · blk_point [iblk, V, idx_val t]

theorem final_9 (c : Dev nD) : (dats m 0 c).arrAt 9 (cfgs 0).N = REF_v31 (m ((c : Thread nD τ).loc main_arg0)) (m ((c : Thread nD τ).loc main_arg1)) (m ((c : Thread nD τ).loc main_arg4)) (m ((c : Thread nD τ).loc main_arg5)) := by
  refine (dats m 0 c).arrAt_eq_of_covers 9 _ (by decide +kernel) fun t hf y => ?_
  blk_simp; rw [after0_9]
  exact point_9 m c t y

theorem key (a b c d : EReal) (h : a = d) (hb : b = 0) (hc : c = 0) : a + (b + c) = d := by rw [hb, hc, add_zero, add_zero, h]

set_option maxHeartbeats 1600000 in
/-- What the body stores at block index `y` of point `t` is the reference at the array index `y` sits at. -/
theorem point_10 (c : Dev nD) (t : Fin cfg0.N)
    (hg : ∀ i, Finite.IsReal (m ((c : Thread nD τ).loc main_arg1) i)) (hw : ∀ i, Finite.IsReal (m ((c : Thread nD τ).loc main_arg6) i)) (y) :
    k0_pay3 (k0_pay4 (iblk m c 0 t) (iblk m c 1 t)) (iblk m c 6 t) y
      = REF_v32 (m ((c : Thread nD τ).loc main_arg0)) (m ((c : Thread nD τ).loc main_arg1)) (m ((c : Thread nD τ).loc
        main_arg6)) (((cfg0.win 10).blk t).view.emb y) := by
  pointwise [k0_pay3, k0_pay4, REF_v32, val_main_v32, val_main_v13, val_main_v9, val_main_v8, val_main_v7, val_main_v6, val_main_v4, val_main_v2, val_main_v1, val_main_v0, val_main_cst, val_main_v3, val_main_cst_0, val_main_v5, val_main_cst_1, val_main_v12, val_main_v11, val_main_v10]
  refine key _ _ _ _ ?_ (Finset.sum_eq_zero fun k _ => ?_) (Finset.sum_eq_zero fun k _ => ?_)
  · blk_point [iblk, V, idx_val t]
  · refine (congrArg (_ * · : EReal → EReal) (Finite.IsReal.sub_self ?_)).trans (mul_zero _)
    exact hw _
  · refine (congrArg (· * _ : EReal → EReal) (Finite.IsReal.sub_self ?_)).trans (zero_mul _)
    exact (Finite.isReal_rms (fun j => iblk m c 0 t (ix2 (y 0) j)) k).mul (hg _)

/-- The result array after the run: the blocks tile it. -/
theorem final_10 (c : Dev nD) (hg : ∀ i, Finite.IsReal (m ((c : Thread nD τ).loc main_arg1) i)) (hw : ∀ i, Finite.IsReal (m ((c : Thread nD τ).loc main_arg6) i)) : (dats m 0 c).arrAt 10 (cfgs 0).N = REF_v32 (m ((c : Thread nD τ).loc main_arg0)) (m ((c : Thread nD τ).loc main_arg1)) (m ((c : Thread nD τ).loc main_arg6)) := by
  refine (dats m 0 c).arrAt_eq_of_covers 10 _ (by decide +kernel) fun t hf y => ?_
  blk_simp; rw [after0_10]; frame_out
  exact point_10 m c t hg hw y

end Cert.InProjIdeal.Value

end
-- ==== Proof.InProjClaims.lean ====
/- The claims about `InProj` and its reference, each from one run of the program it speaks of. -/
module

public import proofs.«01_k».proof.Defs
public import proofs.«01_k».proof.Proof.InProjValue
public import proofs.«01_k».proof.Proof.Gen.InProj.Frame
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_inproj_finite
public import Idealize.ShloMosaic.Lib.ReduceAll
public import Idealize.ShloMosaic.Lib.Affine
public import Idealize.ShloMosaic.Lib.Claim

@[expose] public section

set_option maxRecDepth 16384

noncomputable section

namespace Cert.InProjClaims

open Idealize.ShloMosaic Idealize.ShloMosaic.TcCoe Idealize.SL.Sem

theorem frame : Cert.quiescent_InProj (hInProj := Cert.InProj.Gen.facts) := fun m g _ => Cert.InProj.Gen.frame m g

theorem frame_ideal : Cert.quiescent_InProjIdeal (hInProjIdeal := Cert.InProjIdeal.Gen.facts) := fun m g _ => Cert.InProjIdeal.Gen.frame m g

set_option maxHeartbeats 1600000 in
theorem frame_ref : Cert.quiescent_InProjRefIdeal (hInProjRefIdeal := Cert.InProjRefIdeal.Gen.facts) := by
  intro m g _
  exact (θ_run _ _ _).mono (fun r h => ⟨fun c => (h c).2.2.2.2, sem_eq_zero_of_no_sems rfl _⟩) (Cert.InProjRefIdeal.Value.run m g)

theorem frame_ideal_pre : Cert.quiescent_InProjIdeal_pre_inproj_finite (hInProjIdeal := Cert.InProjIdeal.Gen.facts) (hPre_inproj_finite := Cert.Pre_inproj_finite.Gen.facts) :=
  fun m g _ => frame_ideal m g trivial

theorem frame_ref_pre : Cert.quiescent_InProjRefIdeal_pre_inproj_finite (hInProjRefIdeal := Cert.InProjRefIdeal.Gen.facts) (hPre_inproj_finite := Cert.Pre_inproj_finite.Gen.facts) :=
  fun m g _ => frame_ref m g trivial

/-- The precondition makes the norm's weights and the small projection's weights real numbers. -/
theorem finite_of_pre (m : (ℓ : Loc Cert.InProjIdeal.nD Cert.InProjIdeal.τ Cert.InProjIdeal.sig) → Buf (Elt Ideal) ℓ)
    (h : Cert.Pre_InProjIdeal_inproj_finite (hPre_inproj_finite := Cert.Pre_inproj_finite.Gen.facts) m) (c : Dev Cert.InProjIdeal.nD) :
    (∀ i, Finite.IsReal (m ((c.tc : Thread Cert.InProjIdeal.nD Cert.InProjIdeal.τ).loc Cert.InProjIdeal.main_arg1) i))
      ∧ ∀ i, Finite.IsReal (m ((c.tc : Thread Cert.InProjIdeal.nD Cert.InProjIdeal.τ).loc Cert.InProjIdeal.main_arg6) i) := by
  have hc := congrFun (h c) (fun a => a.elim0)
  dsimp only [Cert.Pre_inproj_finite.fn] at hc
  obtain ⟨h1, h2⟩ := IntOp.andi_eq_one.mp hc
  haveI : Subsingleton Cert.Pre_inproj_finite.S_.Idx := ⟨fun a b => funext fun x => x.elim0⟩
  exact ⟨fun i => Finite.isReal_of_cmp _ (Host.reduce_andi_all _ _ _ _ _ h1 i), fun i => Finite.isReal_of_cmp _ (Host.reduce_andi_all _ _ _ _ _ h2 i)⟩

set_option maxHeartbeats 1600000 in
theorem algebraic : Cert.algebraic_InProjIdeal_InProjRefIdeal_pre_inproj_finite (hInProjIdeal := Cert.InProjIdeal.Gen.facts) (hInProjRefIdeal := Cert.InProjRefIdeal.Gen.facts) (hPre_inproj_finite := Cert.Pre_inproj_finite.Gen.facts) := by
  pair_intro
  · run_from Cert.InProjIdeal.Gen.run_main m g
  · run_from Cert.InProjRefIdeal.Value.run m' g'
    · exact (Cert.InProjRefIdeal.Read.val_main_v30_eq ..).trans (Cert.InProjIdeal.Value.final_7 m c).symm
    · exact (Cert.InProjRefIdeal.Read.val_main_v17_eq ..).trans (Cert.InProjIdeal.Value.final_8 m c).symm
    · exact (Cert.InProjRefIdeal.Read.val_main_v31_eq ..).trans (Cert.InProjIdeal.Value.final_9 m c).symm
    · exact (Cert.InProjRefIdeal.Read.val_main_v32_eq ..).trans (Cert.InProjIdeal.Value.final_10 m c (finite_of_pre m hpre c).1 (finite_of_pre m hpre c).2).symm

end Cert.InProjClaims

end
-- ==== Proof.MergeValue.lean ====
/- What the call computes: the result arrays of `Cert.MergeIdeal` after the run are the reference's. -/
module

public import proofs.«01_k».proof.Proof.Gen.MergeIdeal.Frame
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.MergeRefIdeal.Read

variable (m : (ℓ : Loc nD τ sig) → Buf (Elt Ideal) ℓ)

/-- The reference's result as a function of its arguments. -/
abbrev REF_v18 (a0 : FVec Ideal Cert.MergeRefIdeal.S32768x512 .bf16) (a1 : FVec Ideal Cert.MergeRefIdeal.S32768x512 .bf16) (a2 : FVec Ideal Cert.MergeRefIdeal.S32768x512 .bf16) (a3 : FVec Ideal Cert.MergeRefIdeal.S32768x512 .bf16) (a4 : FVec Ideal Cert.MergeRefIdeal.S32768x4096 .bf16) (a5 : FVec Ideal Cert.MergeRefIdeal.S32768x1024 .f32) (a6 : FVec Ideal Cert.MergeRefIdeal.S4x512x1024 .bf16) (a7 : FVec Ideal Cert.MergeRefIdeal.S1024x1024 .bf16) (a8 : FVec Ideal Cert.MergeRefIdeal.S1x1024 .f32) : FVec Ideal Cert.MergeRefIdeal.S32768x1024 .f32 :=
  val_main_v18 (F := Ideal) a0 a1 a2 a3 a4 a5 a6 a7

/-- The reference's result as a function of its arguments. -/
abbrev REF_v33 (a0 : FVec Ideal Cert.MergeRefIdeal.S32768x512 .bf16) (a1 : FVec Ideal Cert.MergeRefIdeal.S32768x512 .bf16) (a2 : FVec Ideal Cert.MergeRefIdeal.S32768x512 .bf16) (a3 : FVec Ideal Cert.MergeRefIdeal.S32768x512 .bf16) (a4 : FVec Ideal Cert.MergeRefIdeal.S32768x4096 .bf16) (a5 : FVec Ideal Cert.MergeRefIdeal.S32768x1024 .f32) (a6 : FVec Ideal Cert.MergeRefIdeal.S4x512x1024 .bf16) (a7 : FVec Ideal Cert.MergeRefIdeal.S1024x1024 .bf16) (a8 : FVec Ideal Cert.MergeRefIdeal.S1x1024 .f32) : FVec Ideal Cert.MergeRefIdeal.S32768x1024 .bf16 :=
  val_main_v33 (F := Ideal) a0 a1 a2 a3 a4 a5 a6 a7 a8

/-- every window's block index at every grid point, in closed form (decided). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![0, 0, 0]
    ∧ win0_7.index t = ![0, 0]
    ∧ win0_8.index t = ![0, 0]
    ∧ win0_9.index t = ![(grid0.coords t 0).val, 0]
    ∧ win0_10.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0, 0]
    ∧ win0_7.index t = ![0, 0]
    ∧ win0_8.index t = ![0, 0]
    ∧ win0_9.index t = ![t.val, 0]
    ∧ win0_10.index t = ![t.val, 0] :=
  (by decide +kernel : ∀ t : Fin grid0.N, _)

set_option maxHeartbeats 1600000 in
/-- What the body stores at block index `y` of point `t` is the reference at the array index `y` sits at. -/
theorem point_9 (c : Dev nD) (t : Fin cfg0.N) (y) :
    k0_pay1 (k0_pay5 (iblk m c 0 t) (iblk m c 1 t) (iblk m c 2 t) (iblk m c 3 t) (iblk m c 4 t) (iblk m c 5 t) (iblk m
      c 6 t) (iblk m c 7 t) (iblk m c 8 t)) (k0_pay6 (iblk m c 0 t) (iblk m c 1 t) (iblk m c 2 t) (iblk m c 3 t) (iblk m
      c 4 t) (iblk m c 5 t) (iblk m c 6 t) (iblk m c 7 t) (iblk m c 8 t)) (View.ld (iblk m c 4 t) r0_8) (iblk m c 5 t)
      (iblk m c 7 t) y
      = REF_v18 (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) (((cfg0.win 9).blk t).view.emb y) := by
  pointwise [k0_pay1, k0_pay5, k0_pay6, k0_pay3, k0_pay4, REF_v18, val_main_v18, val_main_v17, val_main_v15, val_main_v14, val_main_v13, val_main_v12, val_main_v11, val_main_v10, val_main_v9, val_main_v8, val_main_v4, val_main_v0, val_main_v5, val_main_v1, val_main_v6, val_main_v2, val_main_v7, val_main_v3, val_main_cst, val_main_v16]
  refine congrArg₂ (· + · : EReal → EReal → EReal) ?_ (Finset.sum_congr rfl fun x _ => congrArg₂ (· * · : EReal → EReal → EReal) ?_ ?_)
  · blk_point [iblk, V, idx_val t]
  · refine Eq.trans ?_ (Fin.sum_univ_four _).symm
    refine congrArg₂ (· + · : EReal → EReal → EReal) (congrArg₂ (· + · : EReal → EReal → EReal) (congrArg₂ (· + · : EReal → EReal → EReal) ?_ ?_) ?_) ?_ <;>
      refine (mul_comm _ _).trans (congrArg₂ (· * · : EReal → EReal → EReal) ?_ (Finset.sum_congr rfl fun z _ => (mul_comm _ _).trans (congrArg₂ (· * · : EReal → EReal → EReal) ?_ ?_))) <;>
      (repeat first | refine Eq.trans ?_ (dif_pos (by decide)).symm | refine Eq.trans ?_ (dif_neg (by decide)).symm) <;>
      blk_point [iblk, V, idx_val t]
  · blk_point [iblk, V, idx_val t]

/-- The result array after the run: the blocks tile it. -/
theorem final_9 (c : Dev nD) : (dats m 0 c).arrAt 9 (cfgs 0).N = REF_v18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp; rw [after0_9]; frame_out
  exact point_9 m c t y

/-- The second output of a block from the first: the row over the root of its mean square, times the weight. -/
theorem pay2_apply (a b : FVec Ideal S512x1024 .f32) (d : Vec Ideal S512x1024 .bf16) (e : Vec Ideal S512x1024 .f32)
    (f : Vec Ideal S1024x1024 .bf16) (g : Vec Ideal S1x1024 .f32) (p : S512x1024.Idx → EReal) (h : k0_pay1 a b d e f = p) (y) :
    k0_pay2 a b d e f g y = (p y * Ideal.rsqrt (Ideal.div (∑ j : Fin 1024, p (ix2 (y 0) j) * p (ix2 (y 0) j)) (Ideal.ofBits .f32 0x44800000#32)
      + Ideal.ofBits .f32 0x358637BD#32) : EReal) * g (ix2 0 (y 1)) := by
  unfold k0_pay2
  rw [h]
  pointwise []

/-- The same of the reference's second result from its first. -/
theorem ref2_apply (a0 a1 a2 a3 : FVec Ideal Cert.MergeRefIdeal.S32768x512 .bf16) (a4 : FVec Ideal Cert.MergeRefIdeal.S32768x4096 .bf16) (a5 : FVec Ideal Cert.MergeRefIdeal.S32768x1024 .f32) (a6 : FVec Ideal Cert.MergeRefIdeal.S4x512x1024 .bf16) (a7 : FVec Ideal Cert.MergeRefIdeal.S1024x1024 .bf16) (a8 : FVec Ideal Cert.MergeRefIdeal.S1x1024 .f32)
    (q : Cert.MergeRefIdeal.S32768x1024.Idx → EReal) (h : REF_v18 a0 a1 a2 a3 a4 a5 a6 a7 a8 = q) (i) :
    REF_v33 a0 a1 a2 a3 a4 a5 a6 a7 a8 i = (q i * Ideal.rsqrt (Ideal.div (∑ j : Fin 1024, q (ix2 (i 0) j) * q (ix2 (i 0) j)) (Ideal.ofBits .f32 0x44800000#32)
      + Ideal.ofBits .f32 0x358637BD#32) : EReal) * a8 (ix2 0 (i 1)) := by
  have h' : val_main_v18 (F := Ideal) a0 a1 a2 a3 a4 a5 a6 a7 = q := h
  unfold REF_v33 val_main_v33 val_main_v32 val_main_v28 val_main_v27 val_main_v26 val_main_v25 val_main_v23 val_main_v21 val_main_v20 val_main_v19
  rw [h']
  pointwise [val_main_cst_0, val_main_v22, val_main_cst_1, val_main_v24, val_main_cst_2, val_main_v31, val_main_v30, val_main_v29]

set_option maxHeartbeats 1600000 in
/-- What the body stores at block index `y` of point `t` is the reference at the array index `y` sits at. -/
theorem point_10 (c : Dev nD) (t : Fin cfg0.N) (y) :
    k0_pay2 (k0_pay5 (iblk m c 0 t) (iblk m c 1 t) (iblk m c 2 t) (iblk m c 3 t) (iblk m c 4 t) (iblk m c 5 t) (iblk m
      c 6 t) (iblk m c 7 t) (iblk m c 8 t)) (k0_pay6 (iblk m c 0 t) (iblk m c 1 t) (iblk m c 2 t) (iblk m c 3 t) (iblk m
      c 4 t) (iblk m c 5 t) (iblk m c 6 t) (iblk m c 7 t) (iblk m c 8 t)) (View.ld (iblk m c 4 t) r0_8) (iblk m c 5 t)
      (iblk m c 7 t) (iblk m c 8 t) y
      = REF_v33 (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) (((cfg0.win 10).blk t).view.emb y) := by
  generalize hq : REF_v18 (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) = q
  rw [ref2_apply _ _ _ _ _ _ _ _ _ q hq, pay2_apply _ _ _ _ _ _ (fun y => q (((cfg0.win 9).blk t).view.emb y)) (funext fun y => (point_9 m c t y).trans (congrFun hq _))]
  have e : ∀ z : S512x1024.Idx, ((cfg0.win 9).blk t).view.emb z = ((cfg0.win 10).blk t).view.emb z := fun z => rfl
  have e2 : ∀ j : Fin 1024, ((cfg0.win 9).blk t).view.emb (ix2 (y 0) j) = ix2 (((cfg0.win 10).blk t).view.emb y 0) j := fun j => by
    blk_ext [idx_val t]
  refine congrArg₂ (· * · : EReal → EReal → EReal) (congrArg₂ (· * · : EReal → EReal → EReal) (congrArg q (e y)) (congrArg Ideal.rsqrt (congrArg (fun s : EReal => Ideal.div s _ + _) (Finset.sum_congr rfl fun j _ => ?_)))) ?_
  · exact congrArg₂ (· * · : EReal → EReal → EReal) (congrArg q (e2 j)) (congrArg q (e2 j))
  · blk_point [iblk, V, idx_val t]

/-- The result array after the run: the blocks tile it. -/
theorem final_10 (c : Dev nD) : (dats m 0 c).arrAt 10 (cfgs 0).N = REF_v33 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp; rw [after0_10]; frame_out
  exact point_10 m c t y

end Cert.MergeIdeal.Value

end
-- ==== Proof.MergeClaims.lean ====
/- The claims about `Merge` and its reference, each from one run of the program it speaks of. -/
module

public import proofs.«01_k».proof.Defs
public import proofs.«01_k».proof.Proof.MergeValue
public import proofs.«01_k».proof.Proof.Gen.Merge.Frame
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import Idealize.ShloMosaic.Lib.Claim

@[expose] public section

set_option maxRecDepth 16384

noncomputable section

namespace Cert.MergeClaims

open Idealize.ShloMosaic Idealize.ShloMosaic.TcCoe Idealize.SL.Sem

theorem frame : Cert.quiescent_Merge (hMerge := Cert.Merge.Gen.facts) := fun m g _ => Cert.Merge.Gen.frame m g

theorem frame_ideal : Cert.quiescent_MergeIdeal (hMergeIdeal := Cert.MergeIdeal.Gen.facts) := fun m g _ => Cert.MergeIdeal.Gen.frame m g

set_option maxHeartbeats 1600000 in
theorem frame_ref : Cert.quiescent_MergeRefIdeal (hMergeRefIdeal := Cert.MergeRefIdeal.Gen.facts) := by
  intro m g _
  exact (θ_run _ _ _).mono (fun r h => ⟨fun c => (h c).2.2, sem_eq_zero_of_no_sems rfl _⟩) (Cert.MergeRefIdeal.Value.run m g)

set_option maxHeartbeats 1600000 in
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    · exact (Cert.MergeRefIdeal.Read.val_main_v18_eq ..).trans (Cert.MergeIdeal.Value.final_9 m c).symm
    · refine (Cert.MergeRefIdeal.Read.val_main_v33_eq ..).trans ?_
      obtain ⟨h0, h1, h2, h3, h4, h5, h6, h7, h8⟩ := hagree c
      rw [h0, h1, h2, h3, h4, h5, h6, h7, h8]
      exact (Cert.MergeIdeal.Value.final_10 m c).symm

end Cert.MergeClaims

end
-- ==== Proof.lean ====
/- The proof of the claim: each conjunct is one theorem of the module about its program. -/
module

public import proofs.«01_k».proof.Defs
public import proofs.«01_k».proof.Proof.ExpertClaims
public import proofs.«01_k».proof.Proof.FfnClaims
public import proofs.«01_k».proof.Proof.InProjClaims
public import proofs.«01_k».proof.Proof.MergeClaims
public import proofs.«01_k».proof.Proof.Gen.Pre_expert_range
public import proofs.«01_k».proof.Proof.Gen.Pre_inproj_finite

@[expose] public section

noncomputable section

namespace Cert.Proof

theorem claim : Cert.Claim :=
  ⟨Cert.Expert.Gen.facts,
   Cert.ExpertIdeal.Gen.facts,
   Cert.ExpertRefIdeal.Gen.facts,
   Cert.Ffn.Gen.facts,
   Cert.FfnIdeal.Gen.facts,
   Cert.FfnRefIdeal.Gen.facts,
   Cert.InProj.Gen.facts,
   Cert.InProjIdeal.Gen.facts,
   Cert.InProjRefIdeal.Gen.facts,
   Cert.Merge.Gen.facts,
   Cert.MergeIdeal.Gen.facts,
   Cert.MergeRefIdeal.Gen.facts,
   Cert.Pre_expert_range.Gen.facts,
   Cert.Pre_inproj_finite.Gen.facts,
   Cert.ExpertClaims.frame,
   Cert.ExpertClaims.frame_ideal,
   Cert.ExpertClaims.frame_ref,
   Cert.ExpertClaims.frame_ref_pre,
   Cert.FfnClaims.frame,
   Cert.FfnClaims.frame_ideal,
   Cert.FfnClaims.frame_ref,
   Cert.InProjClaims.frame,
   Cert.InProjClaims.frame_ideal,
   Cert.InProjClaims.frame_ideal_pre,
   Cert.InProjClaims.frame_ref,
   Cert.InProjClaims.frame_ref_pre,
   Cert.MergeClaims.frame,
   Cert.MergeClaims.frame_ideal,
   Cert.MergeClaims.frame_ref,
   trivial,
   Cert.ExpertClaims.algebraic,
   trivial,
   Cert.FfnClaims.algebraic,
   trivial,
   Cert.InProjClaims.algebraic,
   trivial,
   Cert.MergeClaims.algebraic⟩

end Cert.Proof

end
